-- ==== Defs.lean ====
def Pre_Conv1 (m : (ℓ : Loc Cert.Conv1.nD Cert.Conv1.τ Cert.Conv1.sig) → Buf (Elt Bits) ℓ) : Prop :=
  True

def Pre_Conv1Ideal (m : (ℓ : Loc Cert.Conv1Ideal.nD Cert.Conv1Ideal.τ Cert.Conv1Ideal.sig) → Buf (Elt Ideal) ℓ) : Prop :=
  True

def Pre_Forward1Ideal (m : (ℓ : Loc Cert.Forward1Ideal.nD Cert.Forward1Ideal.τ Cert.Forward1Ideal.sig) → Buf (Elt Ideal) ℓ) : Prop :=
  True

def Pre_Conv2 (m : (ℓ : Loc Cert.Conv2.nD Cert.Conv2.τ Cert.Conv2.sig) → Buf (Elt Bits) ℓ) : Prop :=
  True

def Pre_Conv2Ideal (m : (ℓ : Loc Cert.Conv2Ideal.nD Cert.Conv2Ideal.τ Cert.Conv2Ideal.sig) → Buf (Elt Ideal) ℓ) : Prop :=
  True

def Pre_Forward2Ideal (m : (ℓ : Loc Cert.Forward2Ideal.nD Cert.Forward2Ideal.τ Cert.Forward2Ideal.sig) → Buf (Elt Ideal) ℓ) : Prop :=
  True

def Pre_Conv3 (m : (ℓ : Loc Cert.Conv3.nD Cert.Conv3.τ Cert.Conv3.sig) → Buf (Elt Bits) ℓ) : Prop :=
  True

def Pre_Conv3Ideal (m : (ℓ : Loc Cert.Conv3Ideal.nD Cert.Conv3Ideal.τ Cert.Conv3Ideal.sig) → Buf (Elt Ideal) ℓ) : Prop :=
  True

def Pre_Adjoint2Ideal (m : (ℓ : Loc Cert.Adjoint2Ideal.nD Cert.Adjoint2Ideal.τ Cert.Adjoint2Ideal.sig) → Buf (Elt Ideal) ℓ) : Prop :=
  True

def Pre_Conv4 (m : (ℓ : Loc Cert.Conv4.nD Cert.Conv4.τ Cert.Conv4.sig) → Buf (Elt Bits) ℓ) : Prop :=
  True

def Pre_Conv4Ideal (m : (ℓ : Loc Cert.Conv4Ideal.nD Cert.Conv4Ideal.τ Cert.Conv4Ideal.sig) → Buf (Elt Ideal) ℓ) : Prop :=
  True

def Pre_Adjoint1Ideal (m : (ℓ : Loc Cert.Adjoint1Ideal.nD Cert.Adjoint1Ideal.τ Cert.Adjoint1Ideal.sig) → Buf (Elt Ideal) ℓ) : Prop :=
  True

def quiescent_Conv1 [hConv1 : Cert.Conv1.Facts] : Prop :=
  ∀ (m : (ℓ : Loc Cert.Conv1.nD Cert.Conv1.τ Cert.Conv1.sig) → Buf (Elt Bits) ℓ) (g : Dev Cert.Conv1.nD → PrngReg), Pre_Conv1 m →
    θ_run (Cert.Conv1.defs (F := Bits)) (onTc (τ := Cert.Conv1.τ) (Cert.Conv1.main (F := Bits))) ⟨m, fun _ => 0, g⟩ (fun r => (∀ c : Dev Cert.Conv1.nD,
      r.2.mem ((c.tc : Thread Cert.Conv1.nD Cert.Conv1.τ).loc Cert.Conv1.main_arg0) = m ((c.tc : Thread Cert.Conv1.nD Cert.Conv1.τ).loc Cert.Conv1.main_arg0)
      ∧ r.2.mem ((c.tc : Thread Cert.Conv1.nD Cert.Conv1.τ).loc Cert.Conv1.main_arg1) = m ((c.tc : Thread Cert.Conv1.nD Cert.Conv1.τ).loc Cert.Conv1.main_arg1))
      ∧ r.2.sem = fun _ => 0)

def quiescent_Conv1Ideal [hConv1Ideal : Cert.Conv1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg), Pre_Conv1Ideal m →
    θ_run (Cert.Conv1Ideal.defs (F := Ideal)) (onTc (τ := Cert.Conv1Ideal.τ) (Cert.Conv1Ideal.main (F := Ideal))) ⟨m, fun _ => 0, g⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1))
      ∧ r.2.sem = fun _ => 0)

def quiescent_Forward1Ideal [hForward1Ideal : Cert.Forward1Ideal.Facts] : Prop :=
  ∀ (m : (ℓ : Loc Cert.Forward1Ideal.nD Cert.Forward1Ideal.τ Cert.Forward1Ideal.sig) → Buf (Elt Ideal) ℓ) (g : Dev Cert.Forward1Ideal.nD → PrngReg), Pre_Forward1Ideal m →
    θ_run (Cert.Forward1Ideal.defs (F := Ideal)) (onTc (τ := Cert.Forward1Ideal.τ) (Cert.Forward1Ideal.main (F := Ideal))) ⟨m, fun _ => 0, g⟩ (fun r => (∀ c : Dev Cert.Forward1Ideal.nD,
      r.2.mem ((c.tc : Thread Cert.Forward1Ideal.nD Cert.Forward1Ideal.τ).loc Cert.Forward1Ideal.main_arg0) = m ((c.tc : Thread Cert.Forward1Ideal.nD Cert.Forward1Ideal.τ).loc Cert.Forward1Ideal.main_arg0)
      ∧ r.2.mem ((c.tc : Thread Cert.Forward1Ideal.nD Cert.Forward1Ideal.τ).loc Cert.Forward1Ideal.main_arg1) = m ((c.tc : Thread Cert.Forward1Ideal.nD Cert.Forward1Ideal.τ).loc Cert.Forward1Ideal.main_arg1))
      ∧ r.2.sem = fun _ => 0)

def quiescent_Conv2 [hConv2 : Cert.Conv2.Facts] : Prop :=
  ∀ (m : (ℓ : Loc Cert.Conv2.nD Cert.Conv2.τ Cert.Conv2.sig) → Buf (Elt Bits) ℓ) (g : Dev Cert.Conv2.nD → PrngReg), Pre_Conv2 m →
    θ_run (Cert.Conv2.defs (F := Bits)) (onTc (τ := Cert.Conv2.τ) (Cert.Conv2.main (F := Bits))) ⟨m, fun _ => 0, g⟩ (fun r => (∀ c : Dev Cert.Conv2.nD,
      r.2.mem ((c.tc : Thread Cert.Conv2.nD Cert.Conv2.τ).loc Cert.Conv2.main_arg0) = m ((c.tc : Thread Cert.Conv2.nD Cert.Conv2.τ).loc Cert.Conv2.main_arg0)
      ∧ r.2.mem ((c.tc : Thread Cert.Conv2.nD Cert.Conv2.τ).loc Cert.Conv2.main_arg1) = m ((c.tc : Thread Cert.Conv2.nD Cert.Conv2.τ).loc Cert.Conv2.main_arg1)
      ∧ r.2.mem ((c.tc : Thread Cert.Conv2.nD Cert.Conv2.τ).loc Cert.Conv2.main_arg2) = m ((c.tc : Thread Cert.Conv2.nD Cert.Conv2.τ).loc Cert.Conv2.main_arg2))
      ∧ r.2.sem = fun _ => 0)

def quiescent_Conv2Ideal [hConv2Ideal : Cert.Conv2Ideal.Facts] : Prop :=
  ∀ (m : (ℓ : Loc Cert.Conv2Ideal.nD Cert.Conv2Ideal.τ Cert.Conv2Ideal.sig) → Buf (Elt Ideal) ℓ) (g : Dev Cert.Conv2Ideal.nD → PrngReg), Pre_Conv2Ideal m →
    θ_run (Cert.Conv2Ideal.defs (F := Ideal)) (onTc (τ := Cert.Conv2Ideal.τ) (Cert.Conv2Ideal.main (F := Ideal))) ⟨m, fun _ => 0, g⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2))
      ∧ r.2.sem = fun _ => 0)

def quiescent_Forward2Ideal [hForward2Ideal : Cert.Forward2Ideal.Facts] : Prop :=
  ∀ (m : (ℓ : Loc Cert.Forward2Ideal.nD Cert.Forward2Ideal.τ Cert.Forward2Ideal.sig) → Buf (Elt Ideal) ℓ) (g : Dev Cert.Forward2Ideal.nD → PrngReg), Pre_Forward2Ideal m →
    θ_run (Cert.Forward2Ideal.defs (F := Ideal)) (onTc (τ := Cert.Forward2Ideal.τ) (Cert.Forward2Ideal.main (F := Ideal))) ⟨m, fun _ => 0, g⟩ (fun r => (∀ c : Dev Cert.Forward2Ideal.nD,
      r.2.mem ((c.tc : Thread Cert.Forward2Ideal.nD Cert.Forward2Ideal.τ).loc Cert.Forward2Ideal.main_arg0) = m ((c.tc : Thread Cert.Forward2Ideal.nD Cert.Forward2Ideal.τ).loc Cert.Forward2Ideal.main_arg0)
      ∧ r.2.mem ((c.tc : Thread Cert.Forward2Ideal.nD Cert.Forward2Ideal.τ).loc Cert.Forward2Ideal.main_arg1) = m ((c.tc : Thread Cert.Forward2Ideal.nD Cert.Forward2Ideal.τ).loc Cert.Forward2Ideal.main_arg1)
      ∧ r.2.mem ((c.tc : Thread Cert.Forward2Ideal.nD Cert.Forward2Ideal.τ).loc Cert.Forward2Ideal.main_arg2) = m ((c.tc : Thread Cert.Forward2Ideal.nD Cert.Forward2Ideal.τ).loc Cert.Forward2Ideal.main_arg2))
      ∧ r.2.sem = fun _ => 0)

def quiescent_Conv3 [hConv3 : Cert.Conv3.Facts] : Prop :=
  ∀ (m : (ℓ : Loc Cert.Conv3.nD Cert.Conv3.τ Cert.Conv3.sig) → Buf (Elt Bits) ℓ) (g : Dev Cert.Conv3.nD → PrngReg), Pre_Conv3 m →
    θ_run (Cert.Conv3.defs (F := Bits)) (onTc (τ := Cert.Conv3.τ) (Cert.Conv3.main (F := Bits))) ⟨m, fun _ => 0, g⟩ (fun r => (∀ c : Dev Cert.Conv3.nD,
      r.2.mem ((c.tc : Thread Cert.Conv3.nD Cert.Conv3.τ).loc Cert.Conv3.main_arg0) = m ((c.tc : Thread Cert.Conv3.nD Cert.Conv3.τ).loc Cert.Conv3.main_arg0)
      ∧ r.2.mem ((c.tc : Thread Cert.Conv3.nD Cert.Conv3.τ).loc Cert.Conv3.main_arg1) = m ((c.tc : Thread Cert.Conv3.nD Cert.Conv3.τ).loc Cert.Conv3.main_arg1))
      ∧ r.2.sem = fun _ => 0)

def quiescent_Conv3Ideal [hConv3Ideal : Cert.Conv3Ideal.Facts] : Prop :=
  ∀ (m : (ℓ : Loc Cert.Conv3Ideal.nD Cert.Conv3Ideal.τ Cert.Conv3Ideal.sig) → Buf (Elt Ideal) ℓ) (g : Dev Cert.Conv3Ideal.nD → PrngReg), Pre_Conv3Ideal m →
    θ_run (Cert.Conv3Ideal.defs (F := Ideal)) (onTc (τ := Cert.Conv3Ideal.τ) (Cert.Conv3Ideal.main (F := Ideal))) ⟨m, fun _ => 0, g⟩ (fun r => (∀ c : Dev Cert.Conv3Ideal.nD,
      r.2.mem ((c.tc : Thread Cert.Conv3Ideal.nD Cert.Conv3Ideal.τ).loc Cert.Conv3Ideal.main_arg0) = m ((c.tc : Thread Cert.Conv3Ideal.nD Cert.Conv3Ideal.τ).loc Cert.Conv3Ideal.main_arg0)
      ∧ r.2.mem ((c.tc : Thread Cert.Conv3Ideal.nD Cert.Conv3Ideal.τ).loc Cert.Conv3Ideal.main_arg1) = m ((c.tc : Thread Cert.Conv3Ideal.nD Cert.Conv3Ideal.τ).loc Cert.Conv3Ideal.main_arg1))
      ∧ r.2.sem = fun _ => 0)

def quiescent_Adjoint2Ideal [hAdjoint2Ideal : Cert.Adjoint2Ideal.Facts] : Prop :=
  ∀ (m : (ℓ : Loc Cert.Adjoint2Ideal.nD Cert.Adjoint2Ideal.τ Cert.Adjoint2Ideal.sig) → Buf (Elt Ideal) ℓ) (g : Dev Cert.Adjoint2Ideal.nD → PrngReg), Pre_Adjoint2Ideal m →
    θ_run (Cert.Adjoint2Ideal.defs (F := Ideal)) (onTc (τ := Cert.Adjoint2Ideal.τ) (Cert.Adjoint2Ideal.main (F := Ideal))) ⟨m, fun _ => 0, g⟩ (fun r => (∀ c : Dev Cert.Adjoint2Ideal.nD,
      r.2.mem ((c.tc : Thread Cert.Adjoint2Ideal.nD Cert.Adjoint2Ideal.τ).loc Cert.Adjoint2Ideal.main_arg0) = m ((c.tc : Thread Cert.Adjoint2Ideal.nD Cert.Adjoint2Ideal.τ).loc Cert.Adjoint2Ideal.main_arg0)
      ∧ r.2.mem ((c.tc : Thread Cert.Adjoint2Ideal.nD Cert.Adjoint2Ideal.τ).loc Cert.Adjoint2Ideal.main_arg1) = m ((c.tc : Thread Cert.Adjoint2Ideal.nD Cert.Adjoint2Ideal.τ).loc Cert.Adjoint2Ideal.main_arg1))
      ∧ r.2.sem = fun _ => 0)

def quiescent_Conv4 [hConv4 : Cert.Conv4.Facts] : Prop :=
  ∀ (m : (ℓ : Loc Cert.Conv4.nD Cert.Conv4.τ Cert.Conv4.sig) → Buf (Elt Bits) ℓ) (g : Dev Cert.Conv4.nD → PrngReg), Pre_Conv4 m →
    θ_run (Cert.Conv4.defs (F := Bits)) (onTc (τ := Cert.Conv4.τ) (Cert.Conv4.main (F := Bits))) ⟨m, fun _ => 0, g⟩ (fun r => (∀ c : Dev Cert.Conv4.nD,
      r.2.mem ((c.tc : Thread Cert.Conv4.nD Cert.Conv4.τ).loc Cert.Conv4.main_arg0) = m ((c.tc : Thread Cert.Conv4.nD Cert.Conv4.τ).loc Cert.Conv4.main_arg0)
      ∧ r.2.mem ((c.tc : Thread Cert.Conv4.nD Cert.Conv4.τ).loc Cert.Conv4.main_arg1) = m ((c.tc : Thread Cert.Conv4.nD Cert.Conv4.τ).loc Cert.Conv4.main_arg1))
      ∧ r.2.sem = fun _ => 0)

def quiescent_Conv4Ideal [hConv4Ideal : Cert.Conv4Ideal.Facts] : Prop :=
  ∀ (m : (ℓ : Loc Cert.Conv4Ideal.nD Cert.Conv4Ideal.τ Cert.Conv4Ideal.sig) → Buf (Elt Ideal) ℓ) (g : Dev Cert.Conv4Ideal.nD → PrngReg), Pre_Conv4Ideal m →
    θ_run (Cert.Conv4Ideal.defs (F := Ideal)) (onTc (τ := Cert.Conv4Ideal.τ) (Cert.Conv4Ideal.main (F := Ideal))) ⟨m, fun _ => 0, g⟩ (fun r => (∀ c : Dev Cert.Conv4Ideal.nD,
      r.2.mem ((c.tc : Thread Cert.Conv4Ideal.nD Cert.Conv4Ideal.τ).loc Cert.Conv4Ideal.main_arg0) = m ((c.tc : Thread Cert.Conv4Ideal.nD Cert.Conv4Ideal.τ).loc Cert.Conv4Ideal.main_arg0)
      ∧ r.2.mem ((c.tc : Thread Cert.Conv4Ideal.nD Cert.Conv4Ideal.τ).loc Cert.Conv4Ideal.main_arg1) = m ((c.tc : Thread Cert.Conv4Ideal.nD Cert.Conv4Ideal.τ).loc Cert.Conv4Ideal.main_arg1))
      ∧ r.2.sem = fun _ => 0)

def quiescent_Adjoint1Ideal [hAdjoint1Ideal : Cert.Adjoint1Ideal.Facts] : Prop :=
  ∀ (m : (ℓ : Loc Cert.Adjoint1Ideal.nD Cert.Adjoint1Ideal.τ Cert.Adjoint1Ideal.sig) → Buf (Elt Ideal) ℓ) (g : Dev Cert.Adjoint1Ideal.nD → PrngReg), Pre_Adjoint1Ideal m →
    θ_run (Cert.Adjoint1Ideal.defs (F := Ideal)) (onTc (τ := Cert.Adjoint1Ideal.τ) (Cert.Adjoint1Ideal.main (F := Ideal))) ⟨m, fun _ => 0, g⟩ (fun r => (∀ c : Dev Cert.Adjoint1Ideal.nD,
      r.2.mem ((c.tc : Thread Cert.Adjoint1Ideal.nD Cert.Adjoint1Ideal.τ).loc Cert.Adjoint1Ideal.main_arg0) = m ((c.tc : Thread Cert.Adjoint1Ideal.nD Cert.Adjoint1Ideal.τ).loc Cert.Adjoint1Ideal.main_arg0)
      ∧ r.2.mem ((c.tc : Thread Cert.Adjoint1Ideal.nD Cert.Adjoint1Ideal.τ).loc Cert.Adjoint1Ideal.main_arg1) = m ((c.tc : Thread Cert.Adjoint1Ideal.nD Cert.Adjoint1Ideal.τ).loc Cert.Adjoint1Ideal.main_arg1))
      ∧ r.2.sem = fun _ => 0)

def preserves_Conv1_Conv1Ideal : Prop :=
  True

def algebraic_Conv1Ideal_Forward1Ideal [hConv1Ideal : Cert.Conv1Ideal.Facts] [hForward1Ideal : Cert.Forward1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg)
    (m' : (ℓ : Loc Cert.Forward1Ideal.nD Cert.Forward1Ideal.τ Cert.Forward1Ideal.sig) → Buf (Elt Ideal) ℓ) (g' : Dev Cert.Forward1Ideal.nD → PrngReg), Pre_Conv1Ideal m →
    (∀ c : Dev Cert.Conv1Ideal.nD,
      m' ((c.tc : Thread Cert.Forward1Ideal.nD Cert.Forward1Ideal.τ).loc Cert.Forward1Ideal.main_arg0) = m ((c.tc : Thread Cert.Conv1Ideal.nD Cert.Conv1Ideal.τ).loc Cert.Conv1Ideal.main_arg0)
      ∧ m' ((c.tc : Thread Cert.Forward1Ideal.nD Cert.Forward1Ideal.τ).loc Cert.Forward1Ideal.main_arg1) = m ((c.tc : Thread Cert.Conv1Ideal.nD Cert.Conv1Ideal.τ).loc Cert.Conv1Ideal.main_arg1)) →
    ∃ (v0 : (c : Dev Cert.Conv1Ideal.nD) → Buf (Elt Ideal) ((c.tc : Thread Cert.Conv1Ideal.nD Cert.Conv1Ideal.τ).loc Cert.Conv1Ideal.main_v7)),
      θ_run (Cert.Conv1Ideal.defs (F := Ideal)) (onTc (τ := Cert.Conv1Ideal.τ) (Cert.Conv1Ideal.main (F := Ideal))) ⟨m, fun _ => 0, g⟩ (fun r => ∀ c : Dev Cert.Conv1Ideal.nD,
          r.2.mem ((c.tc : Thread Cert.Conv1Ideal.nD Cert.Conv1Ideal.τ).loc Cert.Conv1Ideal.main_v7) = v0 c
          ∧ r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
          ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1))
      ∧ θ_run (Cert.Forward1Ideal.defs (F := Ideal)) (onTc (τ := Cert.Forward1Ideal.τ) (Cert.Forward1Ideal.main (F := Ideal))) ⟨m', fun _ => 0, g'⟩ (fun r => ∀ c : Dev Cert.Forward1Ideal.nD,
          r.2.mem ((c.tc : Thread Cert.Forward1Ideal.nD Cert.Forward1Ideal.τ).loc Cert.Forward1Ideal.main_v30) = v0 c
          ∧ r.2.mem ((c.tc : Thread Cert.Forward1Ideal.nD Cert.Forward1Ideal.τ).loc Cert.Forward1Ideal.main_arg0) = m' ((c.tc : Thread Cert.Forward1Ideal.nD Cert.Forward1Ideal.τ).loc Cert.Forward1Ideal.main_arg0)
          ∧ r.2.mem ((c.tc : Thread Cert.Forward1Ideal.nD Cert.Forward1Ideal.τ).loc Cert.Forward1Ideal.main_arg1) = m' ((c.tc : Thread Cert.Forward1Ideal.nD Cert.Forward1Ideal.τ).loc Cert.Forward1Ideal.main_arg1))

def preserves_Conv2_Conv2Ideal : Prop :=
  True

def algebraic_Conv2Ideal_Forward2Ideal [hConv2Ideal : Cert.Conv2Ideal.Facts] [hForward2Ideal : Cert.Forward2Ideal.Facts] : Prop :=
  ∀ (m : (ℓ : Loc Cert.Conv2Ideal.nD Cert.Conv2Ideal.τ Cert.Conv2Ideal.sig) → Buf (Elt Ideal) ℓ) (g : Dev Cert.Conv2Ideal.nD → PrngReg)
    (m' : (ℓ : Loc Cert.Forward2Ideal.nD Cert.Forward2Ideal.τ Cert.Forward2Ideal.sig) → Buf (Elt Ideal) ℓ) (g' : Dev Cert.Forward2Ideal.nD → PrngReg), Pre_Conv2Ideal m →
    (∀ c : Dev Cert.Conv2Ideal.nD,
      m' ((c.tc : Thread Cert.Forward2Ideal.nD Cert.Forward2Ideal.τ).loc Cert.Forward2Ideal.main_arg0) = m ((c.tc : Thread Cert.Conv2Ideal.nD Cert.Conv2Ideal.τ).loc Cert.Conv2Ideal.main_arg0)
      ∧ m' ((c.tc : Thread Cert.Forward2Ideal.nD Cert.Forward2Ideal.τ).loc Cert.Forward2Ideal.main_arg1) = m ((c.tc : Thread Cert.Conv2Ideal.nD Cert.Conv2Ideal.τ).loc Cert.Conv2Ideal.main_arg1)
      ∧ m' ((c.tc : Thread Cert.Forward2Ideal.nD Cert.Forward2Ideal.τ).loc Cert.Forward2Ideal.main_arg2) = m ((c.tc : Thread Cert.Conv2Ideal.nD Cert.Conv2Ideal.τ).loc Cert.Conv2Ideal.main_arg2)) →
    ∃ (v0 : (c : Dev Cert.Conv2Ideal.nD) → Buf (Elt Ideal) ((c.tc : Thread Cert.Conv2Ideal.nD Cert.Conv2Ideal.τ).loc Cert.Conv2Ideal.main_v36)),
      θ_run (Cert.Conv2Ideal.defs (F := Ideal)) (onTc (τ := Cert.Conv2Ideal.τ) (Cert.Conv2Ideal.main (F := Ideal))) ⟨m, fun _ => 0, g⟩ (fun r => ∀ c : Dev Cert.Conv2Ideal.nD,
          r.2.mem ((c.tc : Thread Cert.Conv2Ideal.nD Cert.Conv2Ideal.τ).loc Cert.Conv2Ideal.main_v36) = v0 c
          ∧ r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
          ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
          ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2))
      ∧ θ_run (Cert.Forward2Ideal.defs (F := Ideal)) (onTc (τ := Cert.Forward2Ideal.τ) (Cert.Forward2Ideal.main (F := Ideal))) ⟨m', fun _ => 0, g'⟩ (fun r => ∀ c : Dev Cert.Forward2Ideal.nD,
          r.2.mem ((c.tc : Thread Cert.Forward2Ideal.nD Cert.Forward2Ideal.τ).loc Cert.Forward2Ideal.main_v73) = v0 c
          ∧ r.2.mem ((c.tc : Thread Cert.Forward2Ideal.nD Cert.Forward2Ideal.τ).loc Cert.Forward2Ideal.main_arg0) = m' ((c.tc : Thread Cert.Forward2Ideal.nD Cert.Forward2Ideal.τ).loc Cert.Forward2Ideal.main_arg0)
          ∧ r.2.mem ((c.tc : Thread Cert.Forward2Ideal.nD Cert.Forward2Ideal.τ).loc Cert.Forward2Ideal.main_arg1) = m' ((c.tc : Thread Cert.Forward2Ideal.nD Cert.Forward2Ideal.τ).loc Cert.Forward2Ideal.main_arg1)
          ∧ r.2.mem ((c.tc : Thread Cert.Forward2Ideal.nD Cert.Forward2Ideal.τ).loc Cert.Forward2Ideal.main_arg2) = m' ((c.tc : Thread Cert.Forward2Ideal.nD Cert.Forward2Ideal.τ).loc Cert.Forward2Ideal.main_arg2))

def preserves_Conv3_Conv3Ideal : Prop :=
  True

def algebraic_Conv3Ideal_Adjoint2Ideal [hConv3Ideal : Cert.Conv3Ideal.Facts] [hAdjoint2Ideal : Cert.Adjoint2Ideal.Facts] : Prop :=
  ∀ (m : (ℓ : Loc Cert.Conv3Ideal.nD Cert.Conv3Ideal.τ Cert.Conv3Ideal.sig) → Buf (Elt Ideal) ℓ) (g : Dev Cert.Conv3Ideal.nD → PrngReg)
    (m' : (ℓ : Loc Cert.Adjoint2Ideal.nD Cert.Adjoint2Ideal.τ Cert.Adjoint2Ideal.sig) → Buf (Elt Ideal) ℓ) (g' : Dev Cert.Adjoint2Ideal.nD → PrngReg), Pre_Conv3Ideal m →
    (∀ c : Dev Cert.Conv3Ideal.nD,
      m' ((c.tc : Thread Cert.Adjoint2Ideal.nD Cert.Adjoint2Ideal.τ).loc Cert.Adjoint2Ideal.main_arg0) = m ((c.tc : Thread Cert.Conv3Ideal.nD Cert.Conv3Ideal.τ).loc Cert.Conv3Ideal.main_arg0)
      ∧ m' ((c.tc : Thread Cert.Adjoint2Ideal.nD Cert.Adjoint2Ideal.τ).loc Cert.Adjoint2Ideal.main_arg1) = m ((c.tc : Thread Cert.Conv3Ideal.nD Cert.Conv3Ideal.τ).loc Cert.Conv3Ideal.main_arg1)) →
    ∃ (v0 : (c : Dev Cert.Conv3Ideal.nD) → Buf (Elt Ideal) ((c.tc : Thread Cert.Conv3Ideal.nD Cert.Conv3Ideal.τ).loc Cert.Conv3Ideal.main_v9)),
      θ_run (Cert.Conv3Ideal.defs (F := Ideal)) (onTc (τ := Cert.Conv3Ideal.τ) (Cert.Conv3Ideal.main (F := Ideal))) ⟨m, fun _ => 0, g⟩ (fun r => ∀ c : Dev Cert.Conv3Ideal.nD,
          r.2.mem ((c.tc : Thread Cert.Conv3Ideal.nD Cert.Conv3Ideal.τ).loc Cert.Conv3Ideal.main_v9) = v0 c
          ∧ r.2.mem ((c.tc : Thread Cert.Conv3Ideal.nD Cert.Conv3Ideal.τ).loc Cert.Conv3Ideal.main_arg0) = m ((c.tc : Thread Cert.Conv3Ideal.nD Cert.Conv3Ideal.τ).loc Cert.Conv3Ideal.main_arg0)
          ∧ r.2.mem ((c.tc : Thread Cert.Conv3Ideal.nD Cert.Conv3Ideal.τ).loc Cert.Conv3Ideal.main_arg1) = m ((c.tc : Thread Cert.Conv3Ideal.nD Cert.Conv3Ideal.τ).loc Cert.Conv3Ideal.main_arg1))
      ∧ θ_run (Cert.Adjoint2Ideal.defs (F := Ideal)) (onTc (τ := Cert.Adjoint2Ideal.τ) (Cert.Adjoint2Ideal.main (F := Ideal))) ⟨m', fun _ => 0, g'⟩ (fun r => ∀ c : Dev Cert.Adjoint2Ideal.nD,
          r.2.mem ((c.tc : Thread Cert.Adjoint2Ideal.nD Cert.Adjoint2Ideal.τ).loc Cert.Adjoint2Ideal.main_v30) = v0 c
          ∧ r.2.mem ((c.tc : Thread Cert.Adjoint2Ideal.nD Cert.Adjoint2Ideal.τ).loc Cert.Adjoint2Ideal.main_arg0) = m' ((c.tc : Thread Cert.Adjoint2Ideal.nD Cert.Adjoint2Ideal.τ).loc Cert.Adjoint2Ideal.main_arg0)
          ∧ r.2.mem ((c.tc : Thread Cert.Adjoint2Ideal.nD Cert.Adjoint2Ideal.τ).loc Cert.Adjoint2Ideal.main_arg1) = m' ((c.tc : Thread Cert.Adjoint2Ideal.nD Cert.Adjoint2Ideal.τ).loc Cert.Adjoint2Ideal.main_arg1))

def preserves_Conv4_Conv4Ideal : Prop :=
  True

def algebraic_Conv4Ideal_Adjoint1Ideal [hConv4Ideal : Cert.Conv4Ideal.Facts] [hAdjoint1Ideal : Cert.Adjoint1Ideal.Facts] : Prop :=
  ∀ (m : (ℓ : Loc Cert.Conv4Ideal.nD Cert.Conv4Ideal.τ Cert.Conv4Ideal.sig) → Buf (Elt Ideal) ℓ) (g : Dev Cert.Conv4Ideal.nD → PrngReg)
    (m' : (ℓ : Loc Cert.Adjoint1Ideal.nD Cert.Adjoint1Ideal.τ Cert.Adjoint1Ideal.sig) → Buf (Elt Ideal) ℓ) (g' : Dev Cert.Adjoint1Ideal.nD → PrngReg), Pre_Conv4Ideal m →
    (∀ c : Dev Cert.Conv4Ideal.nD,
      m' ((c.tc : Thread Cert.Adjoint1Ideal.nD Cert.Adjoint1Ideal.τ).loc Cert.Adjoint1Ideal.main_arg0) = m ((c.tc : Thread Cert.Conv4Ideal.nD Cert.Conv4Ideal.τ).loc Cert.Conv4Ideal.main_arg0)
      ∧ m' ((c.tc : Thread Cert.Adjoint1Ideal.nD Cert.Adjoint1Ideal.τ).loc Cert.Adjoint1Ideal.main_arg1) = m ((c.tc : Thread Cert.Conv4Ideal.nD Cert.Conv4Ideal.τ).loc Cert.Conv4Ideal.main_arg1)) →
    ∃ (v0 : (c : Dev Cert.Conv4Ideal.nD) → Buf (Elt Ideal) ((c.tc : Thread Cert.Conv4Ideal.nD Cert.Conv4Ideal.τ).loc Cert.Conv4Ideal.main_v9)),
      θ_run (Cert.Conv4Ideal.defs (F := Ideal)) (onTc (τ := Cert.Conv4Ideal.τ) (Cert.Conv4Ideal.main (F := Ideal))) ⟨m, fun _ => 0, g⟩ (fun r => ∀ c : Dev Cert.Conv4Ideal.nD,
          r.2.mem ((c.tc : Thread Cert.Conv4Ideal.nD Cert.Conv4Ideal.τ).loc Cert.Conv4Ideal.main_v9) = v0 c
          ∧ r.2.mem ((c.tc : Thread Cert.Conv4Ideal.nD Cert.Conv4Ideal.τ).loc Cert.Conv4Ideal.main_arg0) = m ((c.tc : Thread Cert.Conv4Ideal.nD Cert.Conv4Ideal.τ).loc Cert.Conv4Ideal.main_arg0)
          ∧ r.2.mem ((c.tc : Thread Cert.Conv4Ideal.nD Cert.Conv4Ideal.τ).loc Cert.Conv4Ideal.main_arg1) = m ((c.tc : Thread Cert.Conv4Ideal.nD Cert.Conv4Ideal.τ).loc Cert.Conv4Ideal.main_arg1))
      ∧ θ_run (Cert.Adjoint1Ideal.defs (F := Ideal)) (onTc (τ := Cert.Adjoint1Ideal.τ) (Cert.Adjoint1Ideal.main (F := Ideal))) ⟨m', fun _ => 0, g'⟩ (fun r => ∀ c : Dev Cert.Adjoint1Ideal.nD,
          r.2.mem ((c.tc : Thread Cert.Adjoint1Ideal.nD Cert.Adjoint1Ideal.τ).loc Cert.Adjoint1Ideal.main_v30) = v0 c
          ∧ r.2.mem ((c.tc : Thread Cert.Adjoint1Ideal.nD Cert.Adjoint1Ideal.τ).loc Cert.Adjoint1Ideal.main_arg0) = m' ((c.tc : Thread Cert.Adjoint1Ideal.nD Cert.Adjoint1Ideal.τ).loc Cert.Adjoint1Ideal.main_arg0)
          ∧ r.2.mem ((c.tc : Thread Cert.Adjoint1Ideal.nD Cert.Adjoint1Ideal.τ).loc Cert.Adjoint1Ideal.main_arg1) = m' ((c.tc : Thread Cert.Adjoint1Ideal.nD Cert.Adjoint1Ideal.τ).loc Cert.Adjoint1Ideal.main_arg1))

def Claim : Prop :=
  ∃ (hConv1 : Cert.Conv1.Facts) (hConv1Ideal : Cert.Conv1Ideal.Facts) (hForward1Ideal : Cert.Forward1Ideal.Facts) (hConv2 : Cert.Conv2.Facts) (hConv2Ideal : Cert.Conv2Ideal.Facts) (hForward2Ideal : Cert.Forward2Ideal.Facts) (hConv3 : Cert.Conv3.Facts) (hConv3Ideal : Cert.Conv3Ideal.Facts) (hAdjoint2Ideal : Cert.Adjoint2Ideal.Facts) (hConv4 : Cert.Conv4.Facts) (hConv4Ideal : Cert.Conv4Ideal.Facts) (hAdjoint1Ideal : Cert.Adjoint1Ideal.Facts),
    quiescent_Conv1 (hConv1 := hConv1)
    ∧ quiescent_Conv1Ideal (hConv1Ideal := hConv1Ideal)
    ∧ quiescent_Forward1Ideal (hForward1Ideal := hForward1Ideal)
    ∧ quiescent_Conv2 (hConv2 := hConv2)
    ∧ quiescent_Conv2Ideal (hConv2Ideal := hConv2Ideal)
    ∧ quiescent_Forward2Ideal (hForward2Ideal := hForward2Ideal)
    ∧ quiescent_Conv3 (hConv3 := hConv3)
    ∧ quiescent_Conv3Ideal (hConv3Ideal := hConv3Ideal)
    ∧ quiescent_Adjoint2Ideal (hAdjoint2Ideal := hAdjoint2Ideal)
    ∧ quiescent_Conv4 (hConv4 := hConv4)
    ∧ quiescent_Conv4Ideal (hConv4Ideal := hConv4Ideal)
    ∧ quiescent_Adjoint1Ideal (hAdjoint1Ideal := hAdjoint1Ideal)
    ∧ preserves_Conv1_Conv1Ideal
    ∧ algebraic_Conv1Ideal_Forward1Ideal (hConv1Ideal := hConv1Ideal) (hForward1Ideal := hForward1Ideal)
    ∧ preserves_Conv2_Conv2Ideal
    ∧ algebraic_Conv2Ideal_Forward2Ideal (hConv2Ideal := hConv2Ideal) (hForward2Ideal := hForward2Ideal)
    ∧ preserves_Conv3_Conv3Ideal
    ∧ algebraic_Conv3Ideal_Adjoint2Ideal (hConv3Ideal := hConv3Ideal) (hAdjoint2Ideal := hAdjoint2Ideal)
    ∧ preserves_Conv4_Conv4Ideal
    ∧ algebraic_Conv4Ideal_Adjoint1Ideal (hConv4Ideal := hConv4Ideal) (hAdjoint1Ideal := hAdjoint1Ideal)
-- ==== Conv1.lean ====
abbrev S8x1x384x384 : Shape := ⟨4, ![8, 1, 384, 384]⟩
abbrev S32x1x5x5 : Shape := ⟨4, ![32, 1, 5, 5]⟩
abbrev S_ : Shape := ⟨0, ![]⟩
abbrev S32 : Shape := ⟨1, ![32]⟩
abbrev S32x1x1x1 : Shape := ⟨4, ![32, 1, 1, 1]⟩
abbrev S8x1x388x388 : Shape := ⟨4, ![8, 1, 388, 388]⟩
abbrev S8x32x384x384 : Shape := ⟨4, ![8, 32, 384, 384]⟩
abbrev S1x1x388x388 : Shape := ⟨4, ![1, 1, 388, 388]⟩
abbrev S16x1x5x5 : Shape := ⟨4, ![16, 1, 5, 5]⟩
abbrev S1x16x384x384 : Shape := ⟨4, ![1, 16, 384, 384]⟩
abbrev S16x18432 : Shape := ⟨2, ![16, 18432]⟩
abbrev S1x1x48x384 : Shape := ⟨4, ![1, 1, 48, 384]⟩
abbrev S1x48x384 : Shape := ⟨3, ![1, 48, 384]⟩
abbrev S16x1x1x1 : Shape := ⟨4, ![16, 1, 1, 1]⟩
abbrev S16x1 : Shape := ⟨2, ![16, 1]⟩
abbrev S1x18432 : Shape := ⟨2, ![1, 18432]⟩
abbrev S16x48x384 : Shape := ⟨3, ![16, 48, 384]⟩
abbrev S1x16x48x384 : Shape := ⟨4, ![1, 16, 48, 384]⟩

abbrev nBuf : Space → Nat
  | .hbm => 14
  | .vmem => 6
  | .smem => 0
  | _ => 0

abbrev bufTy : (tb : Table) → Fin (tcTables nBuf tb) → BufTy
  | .hbm, ⟨0, _⟩ => ⟨S8x1x384x384, .f32⟩
  | .hbm, ⟨1, _⟩ => ⟨S32x1x5x5, .f32⟩
  | .hbm, ⟨2, _⟩ => ⟨S_, .f32⟩
  | .hbm, ⟨3, _⟩ => ⟨S32, .f32⟩
  | .hbm, ⟨4, _⟩ => ⟨S32x1x1x1, .f32⟩
  | .hbm, ⟨5, _⟩ => ⟨S_, .f32⟩
  | .hbm, ⟨6, _⟩ => ⟨S32x1x1x1, .f32⟩
  | .hbm, ⟨7, _⟩ => ⟨S32x1x1x1, .f32⟩
  | .hbm, ⟨8, _⟩ => ⟨S32x1x5x5, .f32⟩
  | .hbm, ⟨9, _⟩ => ⟨S32x1x5x5, .f32⟩
  | .hbm, ⟨10, _⟩ => ⟨S_, .i32⟩
  | .hbm, ⟨11, _⟩ => ⟨S_, .f32⟩
  | .hbm, ⟨12, _⟩ => ⟨S8x1x388x388, .f32⟩
  | .hbm, ⟨13, _⟩ => ⟨S8x32x384x384, .f32⟩
  | .local _ .vmem, ⟨0, _⟩ => ⟨S1x1x388x388, .f32⟩
  | .local _ .vmem, ⟨1, _⟩ => ⟨S1x1x388x388, .f32⟩
  | .local _ .vmem, ⟨2, _⟩ => ⟨S16x1x5x5, .f32⟩
  | .local _ .vmem, ⟨3, _⟩ => ⟨S16x1x5x5, .f32⟩
  | .local _ .vmem, ⟨4, _⟩ => ⟨S1x16x384x384, .f32⟩
  | .local _ .vmem, ⟨5, _⟩ => ⟨S1x16x384x384, .f32⟩
  | _, _ => ⟨S8x1x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v177 : BitVec 1 := Scalar.cmpi .eq arg2 c0_i32
  let v178 : BitVec 32 := Scalar.extui v177
  let c0_i32_220 : BitVec 32 := 0#32
  let v179 : BitVec 1 := Scalar.cmpi .ne v178 c0_i32_220
  v179

def k0_cond2 (i : grid0.Coords) : BitVec 1 :=
  let arg2 : BitVec 32 := BitVec.ofNat 32 (i 2).val
  let c0_i32_221 : BitVec 32 := 0#32
  let v180 : BitVec 1 := Scalar.cmpi .sgt arg2 c0_i32_221
  let v181 : BitVec 32 := Scalar.extui v180
  let c0_i32_222 : BitVec 32 := 0#32
  let v182 : BitVec 1 := Scalar.cmpi .ne v181 c0_i32_222
  v182

def k0_cond3 (i : grid0.Coords) : BitVec 1 :=
  let arg2 : BitVec 32 := BitVec.ofNat 32 (i 2).val
  let c0_i32_444 : BitVec 32 := 0#32
  let v360 : BitVec 1 := Scalar.cmpi .eq arg2 c0_i32_444
  let v361 : BitVec 32 := Scalar.extui v360
  let c0_i32_445 : BitVec 32 := 0#32
  let v362 : BitVec 1 := Scalar.cmpi .ne v361 c0_i32_445
  v362

def k0_cond4 (i : grid0.Coords) : BitVec 1 :=
  let arg2 : BitVec 32 := BitVec.ofNat 32 (i 2).val
  let c0_i32_446 : BitVec 32 := 0#32
  let v363 : BitVec 1 := Scalar.cmpi .sgt arg2 c0_i32_446
  let v364 : BitVec 32 := Scalar.extui v363
  let c0_i32_447 : BitVec 32 := 0#32
  let v365 : BitVec 1 := Scalar.cmpi .ne v364 c0_i32_447
  v365

def k0_cond5 (i : grid0.Coords) : BitVec 1 :=
  let arg2 : BitVec 32 := BitVec.ofNat 32 (i 2).val
  let c0_i32_669 : BitVec 32 := 0#32
  let v543 : BitVec 1 := Scalar.cmpi .eq arg2 c0_i32_669
  let v544 : BitVec 32 := Scalar.extui v543
  let c0_i32_670 : BitVec 32 := 0#32
  let v545 : BitVec 1 := Scalar.cmpi .ne v544 c0_i32_670
  v545

def k0_cond6 (i : grid0.Coords) : BitVec 1 :=
  let arg2 : BitVec 32 := BitVec.ofNat 32 (i 2).val
  let c0_i32_671 : BitVec 32 := 0#32
  let v546 : BitVec 1 := Scalar.cmpi .sgt arg2 c0_i32_671
  let v547 : BitVec 32 := Scalar.extui v546
  let c0_i32_672 : BitVec 32 := 0#32
  let v548 : BitVec 1 := Scalar.cmpi .ne v547 c0_i32_672
  v548

def k0_cond7 (i : grid0.Coords) : BitVec 1 :=
  let arg2 : BitVec 32 := BitVec.ofNat 32 (i 2).val
  let c0_i32_894 : BitVec 32 := 0#32
  let v726 : BitVec 1 := Scalar.cmpi .eq arg2 c0_i32_894
  let v727 : BitVec 32 := Scalar.extui v726
  let c0_i32_895 : BitVec 32 := 0#32
  let v728 : BitVec 1 := Scalar.cmpi .ne v727 c0_i32_895
  v728

def k0_cond8 (i : grid0.Coords) : BitVec 1 :=
  let arg2 : BitVec 32 := BitVec.ofNat 32 (i 2).val
  let c0_i32_896 : BitVec 32 := 0#32
  let v729 : BitVec 1 := Scalar.cmpi .sgt arg2 c0_i32_896
  let v730 : BitVec 32 := Scalar.extui v729
  let c0_i32_897 : BitVec 32 := 0#32
  let v731 : BitVec 1 := Scalar.cmpi .ne v730 c0_i32_897
  v731

def k0_cond9 (i : grid0.Coords) : BitVec 1 :=
  let arg2 : BitVec 32 := BitVec.ofNat 32 (i 2).val
  let c0_i32_1119 : BitVec 32 := 0#32
  let v909 : BitVec 1 := Scalar.cmpi .eq arg2 c0_i32_1119
  let v910 : BitVec 32 := Scalar.extui v909
  let c0_i32_1120 : BitVec 32 := 0#32
  let v911 : BitVec 1 := Scalar.cmpi .ne v910 c0_i32_1120
  v911

def k0_cond10 (i : grid0.Coords) : BitVec 1 :=
  let arg2 : BitVec 32 := BitVec.ofNat 32 (i 2).val
  let c0_i32_1121 : BitVec 32 := 0#32
  let v912 : BitVec 1 := Scalar.cmpi .sgt arg2 c0_i32_1121
  let v913 : BitVec 32 := Scalar.extui v912
  let c0_i32_1122 : BitVec 32 := 0#32
  let v914 : BitVec 1 := Scalar.cmpi .ne v913 c0_i32_1122
  v914

def k0_cond11 (i : grid0.Coords) : BitVec 1 :=
  let arg2 : BitVec 32 := BitVec.ofNat 32 (i 2).val
  let c0_i32_1344 : BitVec 32 := 0#32
  let v1092 : BitVec 1 := Scalar.cmpi .eq arg2 c0_i32_1344
  let v1093 : BitVec 32 := Scalar.extui v1092
  let c0_i32_1345 : BitVec 32 := 0#32
  let v1094 : BitVec 1 := Scalar.cmpi .ne v1093 c0_i32_1345
  v1094

def k0_cond12 (i : grid0.Coords) : BitVec 1 :=
  let arg2 : BitVec 32 := BitVec.ofNat 32 (i 2).val
  let c0_i32_1346 : BitVec 32 := 0#32
  let v1095 : BitVec 1 := Scalar.cmpi .sgt arg2 c0_i32_1346
  let v1096 : BitVec 32 := Scalar.extui v1095
  let c0_i32_1347 : BitVec 32 := 0#32
  let v1097 : BitVec 1 := Scalar.cmpi .ne v1096 c0_i32_1347
  v1097

def k0_cond13 (i : grid0.Coords) : BitVec 1 :=
  let arg2 : BitVec 32 := BitVec.ofNat 32 (i 2).val
  let c0_i32_1569 : BitVec 32 := 0#32
  let v1275 : BitVec 1 := Scalar.cmpi .eq arg2 c0_i32_1569
  let v1276 : BitVec 32 := Scalar.extui v1275
  let c0_i32_1570 : BitVec 32 := 0#32
  let v1277 : BitVec 1 := Scalar.cmpi .ne v1276 c0_i32_1570
  v1277

def k0_cond14 (i : grid0.Coords) : BitVec 1 :=
  let arg2 : BitVec 32 := BitVec.ofNat 32 (i 2).val
  let c0_i32_1571 : BitVec 32 := 0#32
  let v1278 : BitVec 1 := Scalar.cmpi .sgt arg2 c0_i32_1571
  let v1279 : BitVec 32 := Scalar.extui v1278
  let c0_i32_1572 : BitVec 32 := 0#32
  let v1280 : BitVec 1 := Scalar.cmpi .ne v1279 c0_i32_1572
  v1280

def k0_cond15 (i : grid0.Coords) : BitVec 1 :=
  let arg2 : BitVec 32 := BitVec.ofNat 32 (i 2).val
  let c0_i32_1794 : BitVec 32 := 0#32
  let v1458 : BitVec 1 := Scalar.cmpi .eq arg2 c0_i32_1794
  let v1459 : BitVec 32 := Scalar.extui v1458
  let c0_i32_1795 : BitVec 32 := 0#32
  let v1460 : BitVec 1 := Scalar.cmpi .ne v1459 c0_i32_1795
  v1460

def k0_cond16 (i : grid0.Coords) : BitVec 1 :=
  let arg2 : BitVec 32 := BitVec.ofNat 32 (i 2).val
  let c0_i32_1796 : BitVec 32 := 0#32
  let v1461 : BitVec 1 := Scalar.cmpi .sgt arg2 c0_i32_1796
  let v1462 : BitVec 32 := Scalar.extui v1461
  let c0_i32_1797 : BitVec 32 := 0#32
  let v1463 : BitVec 1 := Scalar.cmpi .ne v1462 c0_i32_1797
  v1463

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x388x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1x5x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Forward1Ideal.lean ====
abbrev S8x1x384x384 : Shape := ⟨4, ![8, 1, 384, 384]⟩
abbrev S32x1x5x5 : Shape := ⟨4, ![32, 1, 5, 5]⟩
abbrev S_ : Shape := ⟨0, ![]⟩
abbrev S32 : Shape := ⟨1, ![32]⟩
abbrev S32x1x1x1 : Shape := ⟨4, ![32, 1, 1, 1]⟩
abbrev S8x1x388x388 : Shape := ⟨4, ![8, 1, 388, 388]⟩
abbrev S8x1x384x388 : Shape := ⟨4, ![8, 1, 384, 388]⟩
abbrev S8x1x1x384x388 : Shape := ⟨5, ![8, 1, 1, 384, 388]⟩
abbrev S8x1x5x384x388 : Shape := ⟨5, ![8, 1, 5, 384, 388]⟩
abbrev S8x1x5x384x384 : Shape := ⟨5, ![8, 1, 5, 384, 384]⟩
abbrev S8x1x5x1x384x384 : Shape := ⟨6, ![8, 1, 5, 1, 384, 384]⟩
abbrev S8x1x5x5x384x384 : Shape := ⟨6, ![8, 1, 5, 5, 384, 384]⟩
abbrev S32x8x384x384 : Shape := ⟨4, ![32, 8, 384, 384]⟩
abbrev S8x32x384x384 : Shape := ⟨4, ![8, 32, 384, 384]⟩

abbrev nBuf : Space → Nat
  | .hbm => 37
  | .vmem => 0
  | .smem => 0
  | _ => 0

abbrev bufTy : (tb : Table) → Fin (tcTables nBuf tb) → BufTy
  | .hbm, ⟨0, _⟩ => ⟨S8x1x384x384, .f32⟩
  | .hbm, ⟨1, _⟩ => ⟨S32x1x5x5, .f32⟩
  | .hbm, ⟨2, _⟩ => ⟨S_, .f32⟩
  | .hbm, ⟨3, _⟩ => ⟨S32, .f32⟩
  | .hbm, ⟨4, _⟩ => ⟨S32x1x1x1, .f32⟩
  | .hbm, ⟨5, _⟩ => ⟨S_, .f32⟩
  | .hbm, ⟨6, _⟩ => ⟨S32x1x1x1, .f32⟩
  | .hbm, ⟨7, _⟩ => ⟨S32x1x1x1, .f32⟩
  | .hbm, ⟨8, _⟩ => ⟨S32x1x5x5, .f32⟩
  | .hbm, ⟨9, _⟩ => ⟨S32x1x5x5, .f32⟩
  | .hbm, ⟨10, _⟩ => ⟨S_, .i32⟩
  | .hbm, ⟨11, _⟩ => ⟨S_, .f32⟩
  | .hbm, ⟨12, _⟩ => ⟨S8x1x388x388, .f32⟩
  | .hbm, ⟨13, _⟩ => ⟨S8x1x384x388, .f32⟩
  | .hbm, ⟨14, _⟩ => ⟨S8x1x384x388, .f32⟩
  | .hbm, ⟨15, _⟩ => ⟨S8x1x384x388, .f32⟩
  | .hbm, ⟨16, _⟩ => ⟨S8x1x384x388, .f32⟩
  | .hbm, ⟨17, _⟩ => ⟨S8x1x384x388, .f32⟩
  | .hbm, ⟨18, _⟩ => ⟨S8x1x1x384x388, .f32⟩
  | .hbm, ⟨19, _⟩ => ⟨S8x1x1x384x388, .f32⟩
  | .hbm, ⟨20, _⟩ => ⟨S8x1x1x384x388, .f32⟩
  | .hbm, ⟨21, _⟩ => ⟨S8x1x1x384x388, .f32⟩
  | .hbm, ⟨22, _⟩ => ⟨S8x1x1x384x388, .f32⟩
  | .hbm, ⟨23, _⟩ => ⟨S8x1x5x384x388, .f32⟩
  | .hbm, ⟨24, _⟩ => ⟨S8x1x5x384x384, .f32⟩
  | .hbm, ⟨25, _⟩ => ⟨S8x1x5x384x384, .f32⟩
  | .hbm, ⟨26, _⟩ => ⟨S8x1x5x384x384, .f32⟩
  | .hbm, ⟨27, _⟩ => ⟨S8x1x5x384x384, .f32⟩
  | .hbm, ⟨28, _⟩ => ⟨S8x1x5x384x384, .f32⟩
  | .hbm, ⟨29, _⟩ => ⟨S8x1x5x1x384x384, .f32⟩
  | .hbm, ⟨30, _⟩ => ⟨S8x1x5x1x384x384, .f32⟩
  | .hbm, ⟨31, _⟩ => ⟨S8x1x5x1x384x384, .f32⟩
  | .hbm, ⟨32, _⟩ => ⟨S8x1x5x1x384x384, .f32⟩
  | .hbm, ⟨33, _⟩ => ⟨S8x1x5x1x384x384, .f32⟩
  | .hbm, ⟨34, _⟩ => ⟨S8x1x5x5x384x384, .f32⟩
  | .hbm, ⟨35, _⟩ => ⟨S32x8x384x384, .f32⟩
  | .hbm, ⟨36, _⟩ => ⟨S8x32x384x384, .f32⟩
  | _, _ => ⟨S8x1x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Conv2.lean ====
abbrev S8x32x384x384 : Shape := ⟨4, ![8, 32, 384, 384]⟩
abbrev S64x32x5x5 : Shape := ⟨4, ![64, 32, 5, 5]⟩
abbrev S64x21 : Shape := ⟨2, ![64, 21]⟩
abbrev S_ : Shape := ⟨0, ![]⟩
abbrev S64 : Shape := ⟨1, ![64]⟩
abbrev S64x1x1x1 : Shape := ⟨4, ![64, 1, 1, 1]⟩
abbrev S64x20 : Shape := ⟨2, ![64, 20]⟩
abbrev S1 : Shape := ⟨1, ![1]⟩
abbrev S64x1 : Shape := ⟨2, ![64, 1]⟩
abbrev S8x32x388x388 : Shape := ⟨4, ![8, 32, 388, 388]⟩
abbrev S8x64x384x384 : Shape := ⟨4, ![8, 64, 384, 384]⟩
abbrev S1x8x388x388 : Shape := ⟨4, ![1, 8, 388, 388]⟩
abbrev S16x8x5x5 : Shape := ⟨4, ![16, 8, 5, 5]⟩
abbrev S16x1 : Shape := ⟨2, ![16, 1]⟩
abbrev S16x20 : Shape := ⟨2, ![16, 20]⟩
abbrev S1x16x384x384 : Shape := ⟨4, ![1, 16, 384, 384]⟩
abbrev S16x18432 : Shape := ⟨2, ![16, 18432]⟩
abbrev S1x8x48x384 : Shape := ⟨4, ![1, 8, 48, 384]⟩
abbrev S8x48x384 : Shape := ⟨3, ![8, 48, 384]⟩
abbrev S16x8x1x1 : Shape := ⟨4, ![16, 8, 1, 1]⟩
abbrev S16x8 : Shape := ⟨2, ![16, 8]⟩
abbrev S8x18432 : Shape := ⟨2, ![8, 18432]⟩
abbrev S16x48x384 : Shape := ⟨3, ![16, 48, 384]⟩
abbrev S1x16x48x384 : Shape := ⟨4, ![1, 16, 48, 384]⟩
abbrev S16x1x1 : Shape := ⟨3, ![16, 1, 1]⟩

abbrev nBuf : Space → Nat
  | .hbm => 56
  | .vmem => 10
  | .smem => 0
  | _ => 0

abbrev bufTy : (tb : Table) → Fin (tcTables nBuf tb) → BufTy
  | .hbm, ⟨0, _⟩ => ⟨S8x32x384x384, .f32⟩
  | .hbm, ⟨1, _⟩ => ⟨S64x32x5x5, .f32⟩
  | .hbm, ⟨2, _⟩ => ⟨S64x21, .f32⟩
  | .hbm, ⟨3, _⟩ => ⟨S_, .f32⟩
  | .hbm, ⟨4, _⟩ => ⟨S64, .f32⟩
  | .hbm, ⟨5, _⟩ => ⟨S64x1x1x1, .f32⟩
  | .hbm, ⟨6, _⟩ => ⟨S_, .f32⟩
  | .hbm, ⟨7, _⟩ => ⟨S64x1x1x1, .f32⟩
  | .hbm, ⟨8, _⟩ => ⟨S64x1x1x1, .f32⟩
  | .hbm, ⟨9, _⟩ => ⟨S64x32x5x5, .f32⟩
  | .hbm, ⟨10, _⟩ => ⟨S64x32x5x5, .f32⟩
  | .hbm, ⟨11, _⟩ => ⟨S64x20, .f32⟩
  | .hbm, ⟨12, _⟩ => ⟨S64x20, .f32⟩
  | .hbm, ⟨13, _⟩ => ⟨S64x20, .f32⟩
  | .hbm, ⟨14, _⟩ => ⟨S_, .f32⟩
  | .hbm, ⟨15, _⟩ => ⟨S64x20, .f32⟩
  | .hbm, ⟨16, _⟩ => ⟨S64x20, .f32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S64, .f32⟩
  | .hbm, ⟨21, _⟩ => ⟨S64x20, .f32⟩
  | .hbm, ⟨22, _⟩ => ⟨S_, .i32⟩
  | .hbm, ⟨23, _⟩ => ⟨S1, .i32⟩
  | .hbm, ⟨24, _⟩ => ⟨S_, .f32⟩
  | .hbm, ⟨25, _⟩ => ⟨S64, .f32⟩
  | .hbm, ⟨26, _⟩ => ⟨S64x20, .f32⟩
  | .hbm, ⟨27, _⟩ => ⟨S_, .f32⟩
  | .hbm, ⟨28, _⟩ => ⟨S64x1, .f32⟩
  | .hbm, ⟨29, _⟩ => ⟨S_, .f32⟩
  | .hbm, ⟨30, _⟩ => ⟨S_, .f32⟩
  | .hbm, ⟨31, _⟩ => ⟨S64x20, .f32⟩
  | .hbm, ⟨32, _⟩ => ⟨S_, .f32⟩
  | .hbm, ⟨33, _⟩ => ⟨S64x20, .f32⟩
  | .hbm, ⟨34, _⟩ => ⟨S64x20, .f32⟩
  | .hbm, ⟨35, _⟩ => ⟨S64x21, .f32⟩
  | .hbm, ⟨36, _⟩ => ⟨S64x21, .f32⟩
  | .hbm, ⟨37, _⟩ => ⟨S_, .f32⟩
  | .hbm, ⟨38, _⟩ => ⟨S64, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S64x21, .f32⟩
  | .hbm, ⟨44, _⟩ => ⟨S64x21, .f32⟩
  | .hbm, ⟨45, _⟩ => ⟨S64x20, .f32⟩
  | .hbm, ⟨46, _⟩ => ⟨S64x20, .f32⟩
  | .hbm, ⟨47, _⟩ => ⟨S64x20, .f32⟩
  | .hbm, ⟨48, _⟩ => ⟨S_, .f32⟩
  | .hbm, ⟨49, _⟩ => ⟨S64x20, .f32⟩
  | .hbm, ⟨50, _⟩ => ⟨S64x20, .f32⟩
  | .hbm, ⟨51, _⟩ => ⟨S64x1, .f32⟩
  | .hbm, ⟨52, _⟩ => ⟨S_, .i32⟩
  | .hbm, ⟨53, _⟩ => ⟨S_, .f32⟩
  | .hbm, ⟨54, _⟩ => ⟨S8x32x388x388, .f32⟩
  | .hbm, ⟨55, _⟩ => ⟨S8x64x384x384, .f32⟩
  | .local _ .vmem, ⟨0, _⟩ => ⟨S1x8x388x388, .f32⟩
  | .local _ .vmem, ⟨1, _⟩ => ⟨S1x8x388x388, .f32⟩
  | .local _ .vmem, ⟨2, _⟩ => ⟨S16x8x5x5, .f32⟩
  | .local _ .vmem, ⟨3, _⟩ => ⟨S16x8x5x5, .f32⟩
  | .local _ .vmem, ⟨4, _⟩ => ⟨S16x1, .f32⟩
  | .local _ .vmem, ⟨5, _⟩ => ⟨S16x1, .f32⟩
  | .local _ .vmem, ⟨6, _⟩ => ⟨S16x20, .f32⟩
  | .local _ .vmem, ⟨7, _⟩ => ⟨S16x20, .f32⟩
  | .local _ .vmem, ⟨8, _⟩ => ⟨S1x16x384x384, .f32⟩
  | .local _ .vmem, ⟨9, _⟩ => ⟨S1x16x384x384, .f32⟩
  | _, _ => ⟨S8x32x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_call0_call0_cst : Ref sig .tc := ⟨.hbm, 29, rfl⟩
abbrev main_call0_call0_v0 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v177 : BitVec 1 := Scalar.cmpi .eq arg2 c0_i32
  let v178 : BitVec 32 := Scalar.extui v177
  let c0_i32_220 : BitVec 32 := 0#32
  let v179 : BitVec 1 := Scalar.cmpi .ne v178 c0_i32_220
  v179

def k0_cond2 (i : grid0.Coords) : BitVec 1 :=
  let arg2 : BitVec 32 := BitVec.ofNat 32 (i 2).val
  let c0_i32_221 : BitVec 32 := 0#32
  let v180 : BitVec 1 := Scalar.cmpi .sgt arg2 c0_i32_221
  let v181 : BitVec 32 := Scalar.extui v180
  let c0_i32_222 : BitVec 32 := 0#32
  let v182 : BitVec 1 := Scalar.cmpi .ne v181 c0_i32_222
  v182

def k0_cond3 (i : grid0.Coords) : BitVec 1 :=
  let arg2 : BitVec 32 := BitVec.ofNat 32 (i 2).val
  let c0_i32_444 : BitVec 32 := 0#32
  let v360 : BitVec 1 := Scalar.cmpi .eq arg2 c0_i32_444
  let v361 : BitVec 32 := Scalar.extui v360
  let c0_i32_445 : BitVec 32 := 0#32
  let v362 : BitVec 1 := Scalar.cmpi .ne v361 c0_i32_445
  v362

def k0_cond4 (i : grid0.Coords) : BitVec 1 :=
  let arg2 : BitVec 32 := BitVec.ofNat 32 (i 2).val
  let c0_i32_446 : BitVec 32 := 0#32
  let v363 : BitVec 1 := Scalar.cmpi .sgt arg2 c0_i32_446
  let v364 : BitVec 32 := Scalar.extui v363
  let c0_i32_447 : BitVec 32 := 0#32
  let v365 : BitVec 1 := Scalar.cmpi .ne v364 c0_i32_447
  v365

def k0_cond5 (i : grid0.Coords) : BitVec 1 :=
  let arg2 : BitVec 32 := BitVec.ofNat 32 (i 2).val
  let c0_i32_669 : BitVec 32 := 0#32
  let v543 : BitVec 1 := Scalar.cmpi .eq arg2 c0_i32_669
  let v544 : BitVec 32 := Scalar.extui v543
  let c0_i32_670 : BitVec 32 := 0#32
  let v545 : BitVec 1 := Scalar.cmpi .ne v544 c0_i32_670
  v545

def k0_cond6 (i : grid0.Coords) : BitVec 1 :=
  let arg2 : BitVec 32 := BitVec.ofNat 32 (i 2).val
  let c0_i32_671 : BitVec 32 := 0#32
  let v546 : BitVec 1 := Scalar.cmpi .sgt arg2 c0_i32_671
  let v547 : BitVec 32 := Scalar.extui v546
  let c0_i32_672 : BitVec 32 := 0#32
  let v548 : BitVec 1 := Scalar.cmpi .ne v547 c0_i32_672
  v548

def k0_cond7 (i : grid0.Coords) : BitVec 1 :=
  let arg2 : BitVec 32 := BitVec.ofNat 32 (i 2).val
  let c0_i32_894 : BitVec 32 := 0#32
  let v726 : BitVec 1 := Scalar.cmpi .eq arg2 c0_i32_894
  let v727 : BitVec 32 := Scalar.extui v726
  let c0_i32_895 : BitVec 32 := 0#32
  let v728 : BitVec 1 := Scalar.cmpi .ne v727 c0_i32_895
  v728

def k0_cond8 (i : grid0.Coords) : BitVec 1 :=
  let arg2 : BitVec 32 := BitVec.ofNat 32 (i 2).val
  let c0_i32_896 : BitVec 32 := 0#32
  let v729 : BitVec 1 := Scalar.cmpi .sgt arg2 c0_i32_896
  let v730 : BitVec 32 := Scalar.extui v729
  let c0_i32_897 : BitVec 32 := 0#32
  let v731 : BitVec 1 := Scalar.cmpi .ne v730 c0_i32_897
  v731

def k0_cond9 (i : grid0.Coords) : BitVec 1 :=
  let arg2 : BitVec 32 := BitVec.ofNat 32 (i 2).val
  let c0_i32_1119 : BitVec 32 := 0#32
  let v909 : BitVec 1 := Scalar.cmpi .eq arg2 c0_i32_1119
  let v910 : BitVec 32 := Scalar.extui v909
  let c0_i32_1120 : BitVec 32 := 0#32
  let v911 : BitVec 1 := Scalar.cmpi .ne v910 c0_i32_1120
  v911

def k0_cond10 (i : grid0.Coords) : BitVec 1 :=
  let arg2 : BitVec 32 := BitVec.ofNat 32 (i 2).val
  let c0_i32_1121 : BitVec 32 := 0#32
  let v912 : BitVec 1 := Scalar.cmpi .sgt arg2 c0_i32_1121
  let v913 : BitVec 32 := Scalar.extui v912
  let c0_i32_1122 : BitVec 32 := 0#32
  let v914 : BitVec 1 := Scalar.cmpi .ne v913 c0_i32_1122
  v914

def k0_cond11 (i : grid0.Coords) : BitVec 1 :=
  let arg2 : BitVec 32 := BitVec.ofNat 32 (i 2).val
  let c0_i32_1344 : BitVec 32 := 0#32
  let v1092 : BitVec 1 := Scalar.cmpi .eq arg2 c0_i32_1344
  let v1093 : BitVec 32 := Scalar.extui v1092
  let c0_i32_1345 : BitVec 32 := 0#32
  let v1094 : BitVec 1 := Scalar.cmpi .ne v1093 c0_i32_1345
  v1094

def k0_cond12 (i : grid0.Coords) : BitVec 1 :=
  let arg2 : BitVec 32 := BitVec.ofNat 32 (i 2).val
  let c0_i32_1346 : BitVec 32 := 0#32
  let v1095 : BitVec 1 := Scalar.cmpi .sgt arg2 c0_i32_1346
  let v1096 : BitVec 32 := Scalar.extui v1095
  let c0_i32_1347 : BitVec 32 := 0#32
  let v1097 : BitVec 1 := Scalar.cmpi .ne v1096 c0_i32_1347
  v1097

def k0_cond13 (i : grid0.Coords) : BitVec 1 :=
  let arg2 : BitVec 32 := BitVec.ofNat 32 (i 2).val
  let c0_i32_1569 : BitVec 32 := 0#32
  let v1275 : BitVec 1 := Scalar.cmpi .eq arg2 c0_i32_1569
  let v1276 : BitVec 32 := Scalar.extui v1275
  let c0_i32_1570 : BitVec 32 := 0#32
  let v1277 : BitVec 1 := Scalar.cmpi .ne v1276 c0_i32_1570
  v1277

def k0_cond14 (i : grid0.Coords) : BitVec 1 :=
  let arg2 : BitVec 32 := BitVec.ofNat 32 (i 2).val
  let c0_i32_1571 : BitVec 32 := 0#32
  let v1278 : BitVec 1 := Scalar.cmpi .sgt arg2 c0_i32_1571
  let v1279 : BitVec 32 := Scalar.extui v1278
  let c0_i32_1572 : BitVec 32 := 0#32
  let v1280 : BitVec 1 := Scalar.cmpi .ne v1279 c0_i32_1572
  v1280

def k0_cond15 (i : grid0.Coords) : BitVec 1 :=
  let arg2 : BitVec 32 := BitVec.ofNat 32 (i 2).val
  let c0_i32_1794 : BitVec 32 := 0#32
  let v1458 : BitVec 1 := Scalar.cmpi .eq arg2 c0_i32_1794
  let v1459 : BitVec 32 := Scalar.extui v1458
  let c0_i32_1795 : BitVec 32 := 0#32
  let v1460 : BitVec 1 := Scalar.cmpi .ne v1459 c0_i32_1795
  v1460

def k0_cond16 (i : grid0.Coords) : BitVec 1 :=
  let arg2 : BitVec 32 := BitVec.ofNat 32 (i 2).val
  let c0_i32_1796 : BitVec 32 := 0#32
  let v1461 : BitVec 1 := Scalar.cmpi .sgt arg2 c0_i32_1796
  let v1462 : BitVec 32 := Scalar.extui v1461
  let c0_i32_1797 : BitVec 32 := 0#32
  let v1463 : BitVec 1 := Scalar.cmpi .ne v1462 c0_i32_1797
  v1463

def k0_cond17 (i : grid0.Coords) : BitVec 1 :=
  let arg2 : BitVec 32 := BitVec.ofNat 32 (i 2).val
  let c3_i32 : BitVec 32 := 3#32
  let v1464 : BitVec 1 := Scalar.cmpi .eq arg2 c3_i32
  let v1465 : BitVec 32 := Scalar.extui v1464
  let c0_i32_1798 : BitVec 32 := 0#32
  let v1466 : BitVec 1 := Scalar.cmpi .ne v1465 c0_i32_1798
  v1466

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x388x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x8x5x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x16x384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Forward2Ideal.lean ====
abbrev S8x32x384x384 : Shape := ⟨4, ![8, 32, 384, 384]⟩
abbrev S64x32x5x5 : Shape := ⟨4, ![64, 32, 5, 5]⟩
abbrev S64x21 : Shape := ⟨2, ![64, 21]⟩
abbrev S20 : Shape := ⟨1, ![20]⟩
abbrev S_ : Shape := ⟨0, ![]⟩
abbrev S64 : Shape := ⟨1, ![64]⟩
abbrev S64x1x1x1 : Shape := ⟨4, ![64, 1, 1, 1]⟩
abbrev S8x32x388x388 : Shape := ⟨4, ![8, 32, 388, 388]⟩
abbrev S8x32x384x388 : Shape := ⟨4, ![8, 32, 384, 388]⟩
abbrev S8x32x1x384x388 : Shape := ⟨5, ![8, 32, 1, 384, 388]⟩
abbrev S8x32x5x384x388 : Shape := ⟨5, ![8, 32, 5, 384, 388]⟩
abbrev S8x32x5x384x384 : Shape := ⟨5, ![8, 32, 5, 384, 384]⟩
abbrev S8x32x5x1x384x384 : Shape := ⟨6, ![8, 32, 5, 1, 384, 384]⟩
abbrev S8x32x5x5x384x384 : Shape := ⟨6, ![8, 32, 5, 5, 384, 384]⟩
abbrev S64x8x384x384 : Shape := ⟨4, ![64, 8, 384, 384]⟩
abbrev S8x64x384x384 : Shape := ⟨4, ![8, 64, 384, 384]⟩
abbrev S64x20 : Shape := ⟨2, ![64, 20]⟩
abbrev S1 : Shape := ⟨1, ![1]⟩
abbrev S64x1 : Shape := ⟨2, ![64, 1]⟩
abbrev S8x64x384x384x1 : Shape := ⟨5, ![8, 64, 384, 384, 1]⟩
abbrev S1x1x1x1x20 : Shape := ⟨5, ![1, 1, 1, 1, 20]⟩
abbrev S8x64x384x384x20 : Shape := ⟨5, ![8, 64, 384, 384, 20]⟩
abbrev S64x1x1 : Shape := ⟨3, ![64, 1, 1]⟩
abbrev S64x1x1x20 : Shape := ⟨4, ![64, 1, 1, 20]⟩
abbrev S1x64x1x1x20 : Shape := ⟨5, ![1, 64, 1, 1, 20]⟩
abbrev S1x64x1x1 : Shape := ⟨4, ![1, 64, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S8x32x384x384, .f32⟩
  | .hbm, ⟨1, _⟩ => ⟨S64x32x5x5, .f32⟩
  | .hbm, ⟨2, _⟩ => ⟨S64x21, .f32⟩
  | .hbm, ⟨3, _⟩ => ⟨S20, .f32⟩
  | .hbm, ⟨4, _⟩ => ⟨S20, .f32⟩
  | .hbm, ⟨5, _⟩ => ⟨S_, .f32⟩
  | .hbm, ⟨6, _⟩ => ⟨S64, .f32⟩
  | .hbm, ⟨7, _⟩ => ⟨S64x1x1x1, .f32⟩
  | .hbm, ⟨8, _⟩ => ⟨S_, .f32⟩
  | .hbm, ⟨9, _⟩ => ⟨S64x1x1x1, .f32⟩
  | .hbm, ⟨10, _⟩ => ⟨S64x1x1x1, .f32⟩
  | .hbm, ⟨11, _⟩ => ⟨S64x32x5x5, .f32⟩
  | .hbm, ⟨12, _⟩ => ⟨S64x32x5x5, .f32⟩
  | .hbm, ⟨13, _⟩ => ⟨S_, .i32⟩
  | .hbm, ⟨14, _⟩ => ⟨S_, .f32⟩
  | .hbm, ⟨15, _⟩ => ⟨S8x32x388x388, .f32⟩
  | .hbm, ⟨16, _⟩ => ⟨S8x32x384x388, .f32⟩
  | .hbm, ⟨17, _⟩ => ⟨S8x32x384x388, .f32⟩
  | .hbm, ⟨18, _⟩ => ⟨S8x32x384x388, .f32⟩
  | .hbm, ⟨19, _⟩ => ⟨S8x32x384x388, .f32⟩
  | .hbm, ⟨20, _⟩ => ⟨S8x32x384x388, .f32⟩
  | .hbm, ⟨21, _⟩ => ⟨S8x32x1x384x388, .f32⟩
  | .hbm, ⟨22, _⟩ => ⟨S8x32x1x384x388, .f32⟩
  | .hbm, ⟨23, _⟩ => ⟨S8x32x1x384x388, .f32⟩
  | .hbm, ⟨24, _⟩ => ⟨S8x32x1x384x388, .f32⟩
  | .hbm, ⟨25, _⟩ => ⟨S8x32x1x384x388, .f32⟩
  | .hbm, ⟨26, _⟩ => ⟨S8x32x5x384x388, .f32⟩
  | .hbm, ⟨27, _⟩ => ⟨S8x32x5x384x384, .f32⟩
  | .hbm, ⟨28, _⟩ => ⟨S8x32x5x384x384, .f32⟩
  | .hbm, ⟨29, _⟩ => ⟨S8x32x5x384x384, .f32⟩
  | .hbm, ⟨30, _⟩ => ⟨S8x32x5x384x384, .f32⟩
  | .hbm, ⟨31, _⟩ => ⟨S8x32x5x384x384, .f32⟩
  | .hbm, ⟨32, _⟩ => ⟨S8x32x5x1x384x384, .f32⟩
  | .hbm, ⟨33, _⟩ => ⟨S8x32x5x1x384x384, .f32⟩
  | .hbm, ⟨34, _⟩ => ⟨S8x32x5x1x384x384, .f32⟩
  | .hbm, ⟨35, _⟩ => ⟨S8x32x5x1x384x384, .f32⟩
  | .hbm, ⟨36, _⟩ => ⟨S8x32x5x1x384x384, .f32⟩
  | .hbm, ⟨37, _⟩ => ⟨S8x32x5x5x384x384, .f32⟩
  | .hbm, ⟨38, _⟩ => ⟨S64x8x384x384, .f32⟩
  | .hbm, ⟨39, _⟩ => ⟨S8x64x384x384, .f32⟩
  | .hbm, ⟨40, _⟩ => ⟨S64x20, .f32⟩
  | .hbm, ⟨41, _⟩ => ⟨S64x20, .f32⟩
  | .hbm, ⟨42, _⟩ => ⟨S64x20, .f32⟩
  | .hbm, ⟨43, _⟩ => ⟨S_, .f32⟩
  | .hbm, ⟨44, _⟩ => ⟨S64x20, .f32⟩
  | .hbm, ⟨45, _⟩ => ⟨S64x20, .f32⟩
  | .hbm, ⟨46, _⟩ => ⟨S_, .i32⟩
  | .hbm, ⟨47, _⟩ => ⟨S1, .i32⟩
  | .hbm, ⟨48, _⟩ => ⟨S_, .f32⟩
  | .hbm, ⟨49, _⟩ => ⟨S64, .f32⟩
  | .hbm, ⟨50, _⟩ => ⟨S64x20, .f32⟩
  | .hbm, ⟨51, _⟩ => ⟨S_, .i32⟩
  | .hbm, ⟨52, _⟩ => ⟨S1, .i32⟩
  | .hbm, ⟨53, _⟩ => ⟨S_, .f32⟩
  | .hbm, ⟨54, _⟩ => ⟨S64, .f32⟩
  | .hbm, ⟨55, _⟩ => ⟨S64x20, .f32⟩
  | .hbm, ⟨56, _⟩ => ⟨S_, .f32⟩
  | .hbm, ⟨57, _⟩ => ⟨S64x1, .f32⟩
  | .hbm, ⟨58, _⟩ => ⟨S_, .f32⟩
  | .hbm, ⟨59, _⟩ => ⟨S_, .f32⟩
  | .hbm, ⟨60, _⟩ => ⟨S64x20, .f32⟩
  | .hbm, ⟨61, _⟩ => ⟨S_, .f32⟩
  | .hbm, ⟨62, _⟩ => ⟨S64x20, .f32⟩
  | .hbm, ⟨63, _⟩ => ⟨S64x20, .f32⟩
  | .hbm, ⟨64, _⟩ => ⟨S64x21, .f32⟩
  | .hbm, ⟨65, _⟩ => ⟨S64x21, .f32⟩
  | .hbm, ⟨66, _⟩ => ⟨S_, .f32⟩
  | .hbm, ⟨67, _⟩ => ⟨S64, .f32⟩
  | .hbm, ⟨68, _⟩ => ⟨S64x1, .f32⟩
  | .hbm, ⟨69, _⟩ => ⟨S_, .f32⟩
  | .hbm, ⟨70, _⟩ => ⟨S64x1, .f32⟩
  | .hbm, ⟨71, _⟩ => ⟨S64x1, .f32⟩
  | .hbm, ⟨72, _⟩ => ⟨S64x21, .f32⟩
  | .hbm, ⟨73, _⟩ => ⟨S64x21, .f32⟩
  | .hbm, ⟨74, _⟩ => ⟨S64x20, .f32⟩
  | .hbm, ⟨75, _⟩ => ⟨S64x20, .f32⟩
  | .hbm, ⟨76, _⟩ => ⟨S64x20, .f32⟩
  | .hbm, ⟨77, _⟩ => ⟨S_, .f32⟩
  | .hbm, ⟨78, _⟩ => ⟨S64x20, .f32⟩
  | .hbm, ⟨79, _⟩ => ⟨S64x20, .f32⟩
  | .hbm, ⟨80, _⟩ => ⟨S8x64x384x384x1, .f32⟩
  | .hbm, ⟨81, _⟩ => ⟨S1x1x1x1x20, .f32⟩
  | .hbm, ⟨82, _⟩ => ⟨S8x64x384x384x20, .f32⟩
  | .hbm, ⟨83, _⟩ => ⟨S8x64x384x384x20, .f32⟩
  | .hbm, ⟨84, _⟩ => ⟨S8x64x384x384x20, .f32⟩
  | .hbm, ⟨85, _⟩ => ⟨S1x1x1x1x20, .f32⟩
  | .hbm, ⟨86, _⟩ => ⟨S8x64x384x384x20, .f32⟩
  | .hbm, ⟨87, _⟩ => ⟨S8x64x384x384x20, .f32⟩
  | .hbm, ⟨88, _⟩ => ⟨S1x1x1x1x20, .f32⟩
  | .hbm, ⟨89, _⟩ => ⟨S8x64x384x384x20, .f32⟩
  | .hbm, ⟨90, _⟩ => ⟨S8x64x384x384x20, .f32⟩
  | .hbm, ⟨91, _⟩ => ⟨S64x1, .f32⟩
  | .hbm, ⟨92, _⟩ => ⟨S64x1x1, .f32⟩
  | .hbm, ⟨93, _⟩ => ⟨S64x1x1x20, .f32⟩
  | .hbm, ⟨94, _⟩ => ⟨S1x64x1x1x20, .f32⟩
  | .hbm, ⟨95, _⟩ => ⟨S8x64x384x384x20, .f32⟩
  | .hbm, ⟨96, _⟩ => ⟨S8x64x384x384x20, .f32⟩
  | .hbm, ⟨97, _⟩ => ⟨S_, .f32⟩
  | .hbm, ⟨98, _⟩ => ⟨S8x64x384x384, .f32⟩
  | .hbm, ⟨99, _⟩ => ⟨S1x64x1x1, .f32⟩
  | .hbm, ⟨100, _⟩ => ⟨S8x64x384x384, .f32⟩
  | .hbm, ⟨101, _⟩ => ⟨S8x64x384x384, .f32⟩
  | _, _ => ⟨S8x32x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_call1_call0_cst : Ref sig .tc := ⟨.hbm, 58, rfl⟩
abbrev main_call1_call0_v0 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Conv3.lean ====
abbrev S8x64x384x384 : Shape := ⟨4, ![8, 64, 384, 384]⟩
abbrev S64x32x5x5 : Shape := ⟨4, ![64, 32, 5, 5]⟩
abbrev S_ : Shape := ⟨0, ![]⟩
abbrev S64 : Shape := ⟨1, ![64]⟩
abbrev S64x1x1x1 : Shape := ⟨4, ![64, 1, 1, 1]⟩
abbrev S32x64x5x5 : Shape := ⟨4, ![32, 64, 5, 5]⟩
abbrev S8x64x388x388 : Shape := ⟨4, ![8, 64, 388, 388]⟩
abbrev S8x32x384x384 : Shape := ⟨4, ![8, 32, 384, 384]⟩
abbrev S1x8x388x388 : Shape := ⟨4, ![1, 8, 388, 388]⟩
abbrev S16x8x5x5 : Shape := ⟨4, ![16, 8, 5, 5]⟩
abbrev S1x16x384x384 : Shape := ⟨4, ![1, 16, 384, 384]⟩
abbrev S16x18432 : Shape := ⟨2, ![16, 18432]⟩
abbrev S1x8x48x384 : Shape := ⟨4, ![1, 8, 48, 384]⟩
abbrev S8x48x384 : Shape := ⟨3, ![8, 48, 384]⟩
abbrev S16x8x1x1 : Shape := ⟨4, ![16, 8, 1, 1]⟩
abbrev S16x8 : Shape := ⟨2, ![16, 8]⟩
abbrev S8x18432 : Shape := ⟨2, ![8, 18432]⟩
abbrev S16x48x384 : Shape := ⟨3, ![16, 48, 384]⟩
abbrev S1x16x48x384 : Shape := ⟨4, ![1, 16, 48, 384]⟩

abbrev nBuf : Space → Nat
  | .hbm => 16
  | .vmem => 6
  | .smem => 0
  | _ => 0

abbrev bufTy : (tb : Table) → Fin (tcTables nBuf tb) → BufTy
  | .hbm, ⟨0, _⟩ => ⟨S8x64x384x384, .f32⟩
  | .hbm, ⟨1, _⟩ => ⟨S64x32x5x5, .f32⟩
  | .hbm, ⟨2, _⟩ => ⟨S_, .f32⟩
  | .hbm, ⟨3, _⟩ => ⟨S64, .f32⟩
  | .hbm, ⟨4, _⟩ => ⟨S64x1x1x1, .f32⟩
  | .hbm, ⟨5, _⟩ => ⟨S_, .f32⟩
  | .hbm, ⟨6, _⟩ => ⟨S64x1x1x1, .f32⟩
  | .hbm, ⟨7, _⟩ => ⟨S64x1x1x1, .f32⟩
  | .hbm, ⟨8, _⟩ => ⟨S64x32x5x5, .f32⟩
  | .hbm, ⟨9, _⟩ => ⟨S64x32x5x5, .f32⟩
  | .hbm, ⟨10, _⟩ => ⟨S32x64x5x5, .f32⟩
  | .hbm, ⟨11, _⟩ => ⟨S32x64x5x5, .f32⟩
  | .hbm, ⟨12, _⟩ => ⟨S_, .i32⟩
  | .hbm, ⟨13, _⟩ => ⟨S_, .f32⟩
  | .hbm, ⟨14, _⟩ => ⟨S8x64x388x388, .f32⟩
  | .hbm, ⟨15, _⟩ => ⟨S8x32x384x384, .f32⟩
  | .local _ .vmem, ⟨0, _⟩ => ⟨S1x8x388x388, .f32⟩
  | .local _ .vmem, ⟨1, _⟩ => ⟨S1x8x388x388, .f32⟩
  | .local _ .vmem, ⟨2, _⟩ => ⟨S16x8x5x5, .f32⟩
  | .local _ .vmem, ⟨3, _⟩ => ⟨S16x8x5x5, .f32⟩
  | .local _ .vmem, ⟨4, _⟩ => ⟨S1x16x384x384, .f32⟩
  | .local _ .vmem, ⟨5, _⟩ => ⟨S1x16x384x384, .f32⟩
  | _, _ => ⟨S8x64x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond1 (i : grid0.Coords) : BitVec 1 :=
  let arg2 : BitVec 32 := BitVec.ofNat 32 (i 2).val
  let c0_i32 : BitVec 32 := 0#32
  let v177 : BitVec 1 := Scalar.cmpi .eq arg2 c0_i32
  let v178 : BitVec 32 := Scalar.extui v177
  let c0_i32_220 : BitVec 32 := 0#32
  let v179 : BitVec 1 := Scalar.cmpi .ne v178 c0_i32_220
  v179

def k0_cond2 (i : grid0.Coords) : BitVec 1 :=
  let arg2 : BitVec 32 := BitVec.ofNat 32 (i 2).val
  let c0_i32_221 : BitVec 32 := 0#32
  let v180 : BitVec 1 := Scalar.cmpi .sgt arg2 c0_i32_221
  let v181 : BitVec 32 := Scalar.extui v180
  let c0_i32_222 : BitVec 32 := 0#32
  let v182 : BitVec 1 := Scalar.cmpi .ne v181 c0_i32_222
  v182

def k0_cond3 (i : grid0.Coords) : BitVec 1 :=
  let arg2 : BitVec 32 := BitVec.ofNat 32 (i 2).val
  let c0_i32_444 : BitVec 32 := 0#32
  let v360 : BitVec 1 := Scalar.cmpi .eq arg2 c0_i32_444
  let v361 : BitVec 32 := Scalar.extui v360
  let c0_i32_445 : BitVec 32 := 0#32
  let v362 : BitVec 1 := Scalar.cmpi .ne v361 c0_i32_445
  v362

def k0_cond4 (i : grid0.Coords) : BitVec 1 :=
  let arg2 : BitVec 32 := BitVec.ofNat 32 (i 2).val
  let c0_i32_446 : BitVec 32 := 0#32
  let v363 : BitVec 1 := Scalar.cmpi .sgt arg2 c0_i32_446
  let v364 : BitVec 32 := Scalar.extui v363
  let c0_i32_447 : BitVec 32 := 0#32
  let v365 : BitVec 1 := Scalar.cmpi .ne v364 c0_i32_447
  v365

def k0_cond5 (i : grid0.Coords) : BitVec 1 :=
  let arg2 : BitVec 32 := BitVec.ofNat 32 (i 2).val
  let c0_i32_669 : BitVec 32 := 0#32
  let v543 : BitVec 1 := Scalar.cmpi .eq arg2 c0_i32_669
  let v544 : BitVec 32 := Scalar.extui v543
  let c0_i32_670 : BitVec 32 := 0#32
  let v545 : BitVec 1 := Scalar.cmpi .ne v544 c0_i32_670
  v545

def k0_cond6 (i : grid0.Coords) : BitVec 1 :=
  let arg2 : BitVec 32 := BitVec.ofNat 32 (i 2).val
  let c0_i32_671 : BitVec 32 := 0#32
  let v546 : BitVec 1 := Scalar.cmpi .sgt arg2 c0_i32_671
  let v547 : BitVec 32 := Scalar.extui v546
  let c0_i32_672 : BitVec 32 := 0#32
  let v548 : BitVec 1 := Scalar.cmpi .ne v547 c0_i32_672
  v548

def k0_cond7 (i : grid0.Coords) : BitVec 1 :=
  let arg2 : BitVec 32 := BitVec.ofNat 32 (i 2).val
  let c0_i32_894 : BitVec 32 := 0#32
  let v726 : BitVec 1 := Scalar.cmpi .eq arg2 c0_i32_894
  let v727 : BitVec 32 := Scalar.extui v726
  let c0_i32_895 : BitVec 32 := 0#32
  let v728 : BitVec 1 := Scalar.cmpi .ne v727 c0_i32_895
  v728

def k0_cond8 (i : grid0.Coords) : BitVec 1 :=
  let arg2 : BitVec 32 := BitVec.ofNat 32 (i 2).val
  let c0_i32_896 : BitVec 32 := 0#32
  let v729 : BitVec 1 := Scalar.cmpi .sgt arg2 c0_i32_896
  let v730 : BitVec 32 := Scalar.extui v729
  let c0_i32_897 : BitVec 32 := 0#32
  let v731 : BitVec 1 := Scalar.cmpi .ne v730 c0_i32_897
  v731

def k0_cond9 (i : grid0.Coords) : BitVec 1 :=
  let arg2 : BitVec 32 := BitVec.ofNat 32 (i 2).val
  let c0_i32_1119 : BitVec 32 := 0#32
  let v909 : BitVec 1 := Scalar.cmpi .eq arg2 c0_i32_1119
  let v910 : BitVec 32 := Scalar.extui v909
  let c0_i32_1120 : BitVec 32 := 0#32
  let v911 : BitVec 1 := Scalar.cmpi .ne v910 c0_i32_1120
  v911

def k0_cond10 (i : grid0.Coords) : BitVec 1 :=
  let arg2 : BitVec 32 := BitVec.ofNat 32 (i 2).val
  let c0_i32_1121 : BitVec 32 := 0#32
  let v912 : BitVec 1 := Scalar.cmpi .sgt arg2 c0_i32_1121
  let v913 : BitVec 32 := Scalar.extui v912
  let c0_i32_1122 : BitVec 32 := 0#32
  let v914 : BitVec 1 := Scalar.cmpi .ne v913 c0_i32_1122
  v914

def k0_cond11 (i : grid0.Coords) : BitVec 1 :=
  let arg2 : BitVec 32 := BitVec.ofNat 32 (i 2).val
  let c0_i32_1344 : BitVec 32 := 0#32
  let v1092 : BitVec 1 := Scalar.cmpi .eq arg2 c0_i32_1344
  let v1093 : BitVec 32 := Scalar.extui v1092
  let c0_i32_1345 : BitVec 32 := 0#32
  let v1094 : BitVec 1 := Scalar.cmpi .ne v1093 c0_i32_1345
  v1094

def k0_cond12 (i : grid0.Coords) : BitVec 1 :=
  let arg2 : BitVec 32 := BitVec.ofNat 32 (i 2).val
  let c0_i32_1346 : BitVec 32 := 0#32
  let v1095 : BitVec 1 := Scalar.cmpi .sgt arg2 c0_i32_1346
  let v1096 : BitVec 32 := Scalar.extui v1095
  let c0_i32_1347 : BitVec 32 := 0#32
  let v1097 : BitVec 1 := Scalar.cmpi .ne v1096 c0_i32_1347
  v1097

def k0_cond13 (i : grid0.Coords) : BitVec 1 :=
  let arg2 : BitVec 32 := BitVec.ofNat 32 (i 2).val
  let c0_i32_1569 : BitVec 32 := 0#32
  let v1275 : BitVec 1 := Scalar.cmpi .eq arg2 c0_i32_1569
  let v1276 : BitVec 32 := Scalar.extui v1275
  let c0_i32_1570 : BitVec 32 := 0#32
  let v1277 : BitVec 1 := Scalar.cmpi .ne v1276 c0_i32_1570
  v1277

def k0_cond14 (i : grid0.Coords) : BitVec 1 :=
  let arg2 : BitVec 32 := BitVec.ofNat 32 (i 2).val
  let c0_i32_1571 : BitVec 32 := 0#32
  let v1278 : BitVec 1 := Scalar.cmpi .sgt arg2 c0_i32_1571
  let v1279 : BitVec 32 := Scalar.extui v1278
  let c0_i32_1572 : BitVec 32 := 0#32
  let v1280 : BitVec 1 := Scalar.cmpi .ne v1279 c0_i32_1572
  v1280

def k0_cond15 (i : grid0.Coords) : BitVec 1 :=
  let arg2 : BitVec 32 := BitVec.ofNat 32 (i 2).val
  let c0_i32_1794 : BitVec 32 := 0#32
  let v1458 : BitVec 1 := Scalar.cmpi .eq arg2 c0_i32_1794
  let v1459 : BitVec 32 := Scalar.extui v1458
  let c0_i32_1795 : BitVec 32 := 0#32
  let v1460 : BitVec 1 := Scalar.cmpi .ne v1459 c0_i32_1795
  v1460

def k0_cond16 (i : grid0.Coords) : BitVec 1 :=
  let arg2 : BitVec 32 := BitVec.ofNat 32 (i 2).val
  let c0_i32_1796 : BitVec 32 := 0#32
  let v1461 : BitVec 1 := Scalar.cmpi .sgt arg2 c0_i32_1796
  let v1462 : BitVec 32 := Scalar.extui v1461
  let c0_i32_1797 : BitVec 32 := 0#32
  let v1463 : BitVec 1 := Scalar.cmpi .ne v1462 c0_i32_1797
  v1463

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x388x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x8x5x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Adjoint2Ideal.lean ====
abbrev S8x64x384x384 : Shape := ⟨4, ![8, 64, 384, 384]⟩
abbrev S64x32x5x5 : Shape := ⟨4, ![64, 32, 5, 5]⟩
abbrev S_ : Shape := ⟨0, ![]⟩
abbrev S64 : Shape := ⟨1, ![64]⟩
abbrev S64x1x1x1 : Shape := ⟨4, ![64, 1, 1, 1]⟩
abbrev S8x64x388x388 : Shape := ⟨4, ![8, 64, 388, 388]⟩
abbrev S8x64x384x388 : Shape := ⟨4, ![8, 64, 384, 388]⟩
abbrev S8x64x1x384x388 : Shape := ⟨5, ![8, 64, 1, 384, 388]⟩
abbrev S8x64x5x384x388 : Shape := ⟨5, ![8, 64, 5, 384, 388]⟩
abbrev S8x64x5x384x384 : Shape := ⟨5, ![8, 64, 5, 384, 384]⟩
abbrev S8x64x5x1x384x384 : Shape := ⟨6, ![8, 64, 5, 1, 384, 384]⟩
abbrev S8x64x5x5x384x384 : Shape := ⟨6, ![8, 64, 5, 5, 384, 384]⟩
abbrev S32x8x384x384 : Shape := ⟨4, ![32, 8, 384, 384]⟩
abbrev S8x32x384x384 : Shape := ⟨4, ![8, 32, 384, 384]⟩

abbrev nBuf : Space → Nat
  | .hbm => 37
  | .vmem => 0
  | .smem => 0
  | _ => 0

abbrev bufTy : (tb : Table) → Fin (tcTables nBuf tb) → BufTy
  | .hbm, ⟨0, _⟩ => ⟨S8x64x384x384, .f32⟩
  | .hbm, ⟨1, _⟩ => ⟨S64x32x5x5, .f32⟩
  | .hbm, ⟨2, _⟩ => ⟨S_, .f32⟩
  | .hbm, ⟨3, _⟩ => ⟨S64, .f32⟩
  | .hbm, ⟨4, _⟩ => ⟨S64x1x1x1, .f32⟩
  | .hbm, ⟨5, _⟩ => ⟨S_, .f32⟩
  | .hbm, ⟨6, _⟩ => ⟨S64x1x1x1, .f32⟩
  | .hbm, ⟨7, _⟩ => ⟨S64x1x1x1, .f32⟩
  | .hbm, ⟨8, _⟩ => ⟨S64x32x5x5, .f32⟩
  | .hbm, ⟨9, _⟩ => ⟨S64x32x5x5, .f32⟩
  | .hbm, ⟨10, _⟩ => ⟨S_, .i32⟩
  | .hbm, ⟨11, _⟩ => ⟨S_, .f32⟩
  | .hbm, ⟨12, _⟩ => ⟨S8x64x388x388, .f32⟩
  | .hbm, ⟨13, _⟩ => ⟨S8x64x384x388, .f32⟩
  | .hbm, ⟨14, _⟩ => ⟨S8x64x384x388, .f32⟩
  | .hbm, ⟨15, _⟩ => ⟨S8x64x384x388, .f32⟩
  | .hbm, ⟨16, _⟩ => ⟨S8x64x384x388, .f32⟩
  | .hbm, ⟨17, _⟩ => ⟨S8x64x384x388, .f32⟩
  | .hbm, ⟨18, _⟩ => ⟨S8x64x1x384x388, .f32⟩
  | .hbm, ⟨19, _⟩ => ⟨S8x64x1x384x388, .f32⟩
  | .hbm, ⟨20, _⟩ => ⟨S8x64x1x384x388, .f32⟩
  | .hbm, ⟨21, _⟩ => ⟨S8x64x1x384x388, .f32⟩
  | .hbm, ⟨22, _⟩ => ⟨S8x64x1x384x388, .f32⟩
  | .hbm, ⟨23, _⟩ => ⟨S8x64x5x384x388, .f32⟩
  | .hbm, ⟨24, _⟩ => ⟨S8x64x5x384x384, .f32⟩
  | .hbm, ⟨25, _⟩ => ⟨S8x64x5x384x384, .f32⟩
  | .hbm, ⟨26, _⟩ => ⟨S8x64x5x384x384, .f32⟩
  | .hbm, ⟨27, _⟩ => ⟨S8x64x5x384x384, .f32⟩
  | .hbm, ⟨28, _⟩ => ⟨S8x64x5x384x384, .f32⟩
  | .hbm, ⟨29, _⟩ => ⟨S8x64x5x1x384x384, .f32⟩
  | .hbm, ⟨30, _⟩ => ⟨S8x64x5x1x384x384, .f32⟩
  | .hbm, ⟨31, _⟩ => ⟨S8x64x5x1x384x384, .f32⟩
  | .hbm, ⟨32, _⟩ => ⟨S8x64x5x1x384x384, .f32⟩
  | .hbm, ⟨33, _⟩ => ⟨S8x64x5x1x384x384, .f32⟩
  | .hbm, ⟨34, _⟩ => ⟨S8x64x5x5x384x384, .f32⟩
  | .hbm, ⟨35, _⟩ => ⟨S32x8x384x384, .f32⟩
  | .hbm, ⟨36, _⟩ => ⟨S8x32x384x384, .f32⟩
  | _, _ => ⟨S8x64x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Conv4.lean ====
abbrev S8x32x384x384 : Shape := ⟨4, ![8, 32, 384, 384]⟩
abbrev S32x1x5x5 : Shape := ⟨4, ![32, 1, 5, 5]⟩
abbrev S_ : Shape := ⟨0, ![]⟩
abbrev S32 : Shape := ⟨1, ![32]⟩
abbrev S32x1x1x1 : Shape := ⟨4, ![32, 1, 1, 1]⟩
abbrev S1x32x5x5 : Shape := ⟨4, ![1, 32, 5, 5]⟩
abbrev S8x32x388x388 : Shape := ⟨4, ![8, 32, 388, 388]⟩
abbrev S8x1x384x384 : Shape := ⟨4, ![8, 1, 384, 384]⟩
abbrev S1x8x388x388 : Shape := ⟨4, ![1, 8, 388, 388]⟩
abbrev S1x8x5x5 : Shape := ⟨4, ![1, 8, 5, 5]⟩
abbrev S1x1x384x384 : Shape := ⟨4, ![1, 1, 384, 384]⟩
abbrev S1x18432 : Shape := ⟨2, ![1, 18432]⟩
abbrev S1x8x48x384 : Shape := ⟨4, ![1, 8, 48, 384]⟩
abbrev S8x48x384 : Shape := ⟨3, ![8, 48, 384]⟩
abbrev S1x8x1x1 : Shape := ⟨4, ![1, 8, 1, 1]⟩
abbrev S1x8 : Shape := ⟨2, ![1, 8]⟩
abbrev S8x18432 : Shape := ⟨2, ![8, 18432]⟩
abbrev S1x48x384 : Shape := ⟨3, ![1, 48, 384]⟩
abbrev S1x1x48x384 : Shape := ⟨4, ![1, 1, 48, 384]⟩

abbrev nBuf : Space → Nat
  | .hbm => 16
  | .vmem => 6
  | .smem => 0
  | _ => 0

abbrev bufTy : (tb : Table) → Fin (tcTables nBuf tb) → BufTy
  | .hbm, ⟨0, _⟩ => ⟨S8x32x384x384, .f32⟩
  | .hbm, ⟨1, _⟩ => ⟨S32x1x5x5, .f32⟩
  | .hbm, ⟨2, _⟩ => ⟨S_, .f32⟩
  | .hbm, ⟨3, _⟩ => ⟨S32, .f32⟩
  | .hbm, ⟨4, _⟩ => ⟨S32x1x1x1, .f32⟩
  | .hbm, ⟨5, _⟩ => ⟨S_, .f32⟩
  | .hbm, ⟨6, _⟩ => ⟨S32x1x1x1, .f32⟩
  | .hbm, ⟨7, _⟩ => ⟨S32x1x1x1, .f32⟩
  | .hbm, ⟨8, _⟩ => ⟨S32x1x5x5, .f32⟩
  | .hbm, ⟨9, _⟩ => ⟨S32x1x5x5, .f32⟩
  | .hbm, ⟨10, _⟩ => ⟨S1x32x5x5, .f32⟩
  | .hbm, ⟨11, _⟩ => ⟨S1x32x5x5, .f32⟩
  | .hbm, ⟨12, _⟩ => ⟨S_, .i32⟩
  | .hbm, ⟨13, _⟩ => ⟨S_, .f32⟩
  | .hbm, ⟨14, _⟩ => ⟨S8x32x388x388, .f32⟩
  | .hbm, ⟨15, _⟩ => ⟨S8x1x384x384, .f32⟩
  | .local _ .vmem, ⟨0, _⟩ => ⟨S1x8x388x388, .f32⟩
  | .local _ .vmem, ⟨1, _⟩ => ⟨S1x8x388x388, .f32⟩
  | .local _ .vmem, ⟨2, _⟩ => ⟨S1x8x5x5, .f32⟩
  | .local _ .vmem, ⟨3, _⟩ => ⟨S1x8x5x5, .f32⟩
  | .local _ .vmem, ⟨4, _⟩ => ⟨S1x1x384x384, .f32⟩
  | .local _ .vmem, ⟨5, _⟩ => ⟨S1x1x384x384, .f32⟩
  | _, _ => ⟨S8x32x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v177 : BitVec 1 := Scalar.cmpi .eq arg2 c0_i32
  let v178 : BitVec 32 := Scalar.extui v177
  let c0_i32_220 : BitVec 32 := 0#32
  let v179 : BitVec 1 := Scalar.cmpi .ne v178 c0_i32_220
  v179

def k0_cond2 (i : grid0.Coords) : BitVec 1 :=
  let arg2 : BitVec 32 := BitVec.ofNat 32 (i 2).val
  let c0_i32_221 : BitVec 32 := 0#32
  let v180 : BitVec 1 := Scalar.cmpi .sgt arg2 c0_i32_221
  let v181 : BitVec 32 := Scalar.extui v180
  let c0_i32_222 : BitVec 32 := 0#32
  let v182 : BitVec 1 := Scalar.cmpi .ne v181 c0_i32_222
  v182

def k0_cond3 (i : grid0.Coords) : BitVec 1 :=
  let arg2 : BitVec 32 := BitVec.ofNat 32 (i 2).val
  let c0_i32_444 : BitVec 32 := 0#32
  let v360 : BitVec 1 := Scalar.cmpi .eq arg2 c0_i32_444
  let v361 : BitVec 32 := Scalar.extui v360
  let c0_i32_445 : BitVec 32 := 0#32
  let v362 : BitVec 1 := Scalar.cmpi .ne v361 c0_i32_445
  v362

def k0_cond4 (i : grid0.Coords) : BitVec 1 :=
  let arg2 : BitVec 32 := BitVec.ofNat 32 (i 2).val
  let c0_i32_446 : BitVec 32 := 0#32
  let v363 : BitVec 1 := Scalar.cmpi .sgt arg2 c0_i32_446
  let v364 : BitVec 32 := Scalar.extui v363
  let c0_i32_447 : BitVec 32 := 0#32
  let v365 : BitVec 1 := Scalar.cmpi .ne v364 c0_i32_447
  v365

def k0_cond5 (i : grid0.Coords) : BitVec 1 :=
  let arg2 : BitVec 32 := BitVec.ofNat 32 (i 2).val
  let c0_i32_669 : BitVec 32 := 0#32
  let v543 : BitVec 1 := Scalar.cmpi .eq arg2 c0_i32_669
  let v544 : BitVec 32 := Scalar.extui v543
  let c0_i32_670 : BitVec 32 := 0#32
  let v545 : BitVec 1 := Scalar.cmpi .ne v544 c0_i32_670
  v545

def k0_cond6 (i : grid0.Coords) : BitVec 1 :=
  let arg2 : BitVec 32 := BitVec.ofNat 32 (i 2).val
  let c0_i32_671 : BitVec 32 := 0#32
  let v546 : BitVec 1 := Scalar.cmpi .sgt arg2 c0_i32_671
  let v547 : BitVec 32 := Scalar.extui v546
  let c0_i32_672 : BitVec 32 := 0#32
  let v548 : BitVec 1 := Scalar.cmpi .ne v547 c0_i32_672
  v548

def k0_cond7 (i : grid0.Coords) : BitVec 1 :=
  let arg2 : BitVec 32 := BitVec.ofNat 32 (i 2).val
  let c0_i32_894 : BitVec 32 := 0#32
  let v726 : BitVec 1 := Scalar.cmpi .eq arg2 c0_i32_894
  let v727 : BitVec 32 := Scalar.extui v726
  let c0_i32_895 : BitVec 32 := 0#32
  let v728 : BitVec 1 := Scalar.cmpi .ne v727 c0_i32_895
  v728

def k0_cond8 (i : grid0.Coords) : BitVec 1 :=
  let arg2 : BitVec 32 := BitVec.ofNat 32 (i 2).val
  let c0_i32_896 : BitVec 32 := 0#32
  let v729 : BitVec 1 := Scalar.cmpi .sgt arg2 c0_i32_896
  let v730 : BitVec 32 := Scalar.extui v729
  let c0_i32_897 : BitVec 32 := 0#32
  let v731 : BitVec 1 := Scalar.cmpi .ne v730 c0_i32_897
  v731

def k0_cond9 (i : grid0.Coords) : BitVec 1 :=
  let arg2 : BitVec 32 := BitVec.ofNat 32 (i 2).val
  let c0_i32_1119 : BitVec 32 := 0#32
  let v909 : BitVec 1 := Scalar.cmpi .eq arg2 c0_i32_1119
  let v910 : BitVec 32 := Scalar.extui v909
  let c0_i32_1120 : BitVec 32 := 0#32
  let v911 : BitVec 1 := Scalar.cmpi .ne v910 c0_i32_1120
  v911

def k0_cond10 (i : grid0.Coords) : BitVec 1 :=
  let arg2 : BitVec 32 := BitVec.ofNat 32 (i 2).val
  let c0_i32_1121 : BitVec 32 := 0#32
  let v912 : BitVec 1 := Scalar.cmpi .sgt arg2 c0_i32_1121
  let v913 : BitVec 32 := Scalar.extui v912
  let c0_i32_1122 : BitVec 32 := 0#32
  let v914 : BitVec 1 := Scalar.cmpi .ne v913 c0_i32_1122
  v914

def k0_cond11 (i : grid0.Coords) : BitVec 1 :=
  let arg2 : BitVec 32 := BitVec.ofNat 32 (i 2).val
  let c0_i32_1344 : BitVec 32 := 0#32
  let v1092 : BitVec 1 := Scalar.cmpi .eq arg2 c0_i32_1344
  let v1093 : BitVec 32 := Scalar.extui v1092
  let c0_i32_1345 : BitVec 32 := 0#32
  let v1094 : BitVec 1 := Scalar.cmpi .ne v1093 c0_i32_1345
  v1094

def k0_cond12 (i : grid0.Coords) : BitVec 1 :=
  let arg2 : BitVec 32 := BitVec.ofNat 32 (i 2).val
  let c0_i32_1346 : BitVec 32 := 0#32
  let v1095 : BitVec 1 := Scalar.cmpi .sgt arg2 c0_i32_1346
  let v1096 : BitVec 32 := Scalar.extui v1095
  let c0_i32_1347 : BitVec 32 := 0#32
  let v1097 : BitVec 1 := Scalar.cmpi .ne v1096 c0_i32_1347
  v1097

def k0_cond13 (i : grid0.Coords) : BitVec 1 :=
  let arg2 : BitVec 32 := BitVec.ofNat 32 (i 2).val
  let c0_i32_1569 : BitVec 32 := 0#32
  let v1275 : BitVec 1 := Scalar.cmpi .eq arg2 c0_i32_1569
  let v1276 : BitVec 32 := Scalar.extui v1275
  let c0_i32_1570 : BitVec 32 := 0#32
  let v1277 : BitVec 1 := Scalar.cmpi .ne v1276 c0_i32_1570
  v1277

def k0_cond14 (i : grid0.Coords) : BitVec 1 :=
  let arg2 : BitVec 32 := BitVec.ofNat 32 (i 2).val
  let c0_i32_1571 : BitVec 32 := 0#32
  let v1278 : BitVec 1 := Scalar.cmpi .sgt arg2 c0_i32_1571
  let v1279 : BitVec 32 := Scalar.extui v1278
  let c0_i32_1572 : BitVec 32 := 0#32
  let v1280 : BitVec 1 := Scalar.cmpi .ne v1279 c0_i32_1572
  v1280

def k0_cond15 (i : grid0.Coords) : BitVec 1 :=
  let arg2 : BitVec 32 := BitVec.ofNat 32 (i 2).val
  let c0_i32_1794 : BitVec 32 := 0#32
  let v1458 : BitVec 1 := Scalar.cmpi .eq arg2 c0_i32_1794
  let v1459 : BitVec 32 := Scalar.extui v1458
  let c0_i32_1795 : BitVec 32 := 0#32
  let v1460 : BitVec 1 := Scalar.cmpi .ne v1459 c0_i32_1795
  v1460

def k0_cond16 (i : grid0.Coords) : BitVec 1 :=
  let arg2 : BitVec 32 := BitVec.ofNat 32 (i 2).val
  let c0_i32_1796 : BitVec 32 := 0#32
  let v1461 : BitVec 1 := Scalar.cmpi .sgt arg2 c0_i32_1796
  let v1462 : BitVec 32 := Scalar.extui v1461
  let c0_i32_1797 : BitVec 32 := 0#32
  let v1463 : BitVec 1 := Scalar.cmpi .ne v1462 c0_i32_1797
  v1463

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x388x388 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x8x5x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Adjoint1Ideal.lean ====
abbrev S8x32x384x384 : Shape := ⟨4, ![8, 32, 384, 384]⟩
abbrev S32x1x5x5 : Shape := ⟨4, ![32, 1, 5, 5]⟩
abbrev S_ : Shape := ⟨0, ![]⟩
abbrev S32 : Shape := ⟨1, ![32]⟩
abbrev S32x1x1x1 : Shape := ⟨4, ![32, 1, 1, 1]⟩
abbrev S8x32x388x388 : Shape := ⟨4, ![8, 32, 388, 388]⟩
abbrev S8x32x384x388 : Shape := ⟨4, ![8, 32, 384, 388]⟩
abbrev S8x32x1x384x388 : Shape := ⟨5, ![8, 32, 1, 384, 388]⟩
abbrev S8x32x5x384x388 : Shape := ⟨5, ![8, 32, 5, 384, 388]⟩
abbrev S8x32x5x384x384 : Shape := ⟨5, ![8, 32, 5, 384, 384]⟩
abbrev S8x32x5x1x384x384 : Shape := ⟨6, ![8, 32, 5, 1, 384, 384]⟩
abbrev S8x32x5x5x384x384 : Shape := ⟨6, ![8, 32, 5, 5, 384, 384]⟩
abbrev S1x8x384x384 : Shape := ⟨4, ![1, 8, 384, 384]⟩
abbrev S8x1x384x384 : Shape := ⟨4, ![8, 1, 384, 384]⟩

abbrev nBuf : Space → Nat
  | .hbm => 37
  | .vmem => 0
  | .smem => 0
  | _ => 0

abbrev bufTy : (tb : Table) → Fin (tcTables nBuf tb) → BufTy
  | .hbm, ⟨0, _⟩ => ⟨S8x32x384x384, .f32⟩
  | .hbm, ⟨1, _⟩ => ⟨S32x1x5x5, .f32⟩
  | .hbm, ⟨2, _⟩ => ⟨S_, .f32⟩
  | .hbm, ⟨3, _⟩ => ⟨S32, .f32⟩
  | .hbm, ⟨4, _⟩ => ⟨S32x1x1x1, .f32⟩
  | .hbm, ⟨5, _⟩ => ⟨S_, .f32⟩
  | .hbm, ⟨6, _⟩ => ⟨S32x1x1x1, .f32⟩
  | .hbm, ⟨7, _⟩ => ⟨S32x1x1x1, .f32⟩
  | .hbm, ⟨8, _⟩ => ⟨S32x1x5x5, .f32⟩
  | .hbm, ⟨9, _⟩ => ⟨S32x1x5x5, .f32⟩
  | .hbm, ⟨10, _⟩ => ⟨S_, .i32⟩
  | .hbm, ⟨11, _⟩ => ⟨S_, .f32⟩
  | .hbm, ⟨12, _⟩ => ⟨S8x32x388x388, .f32⟩
  | .hbm, ⟨13, _⟩ => ⟨S8x32x384x388, .f32⟩
  | .hbm, ⟨14, _⟩ => ⟨S8x32x384x388, .f32⟩
  | .hbm, ⟨15, _⟩ => ⟨S8x32x384x388, .f32⟩
  | .hbm, ⟨16, _⟩ => ⟨S8x32x384x388, .f32⟩
  | .hbm, ⟨17, _⟩ => ⟨S8x32x384x388, .f32⟩
  | .hbm, ⟨18, _⟩ => ⟨S8x32x1x384x388, .f32⟩
  | .hbm, ⟨19, _⟩ => ⟨S8x32x1x384x388, .f32⟩
  | .hbm, ⟨20, _⟩ => ⟨S8x32x1x384x388, .f32⟩
  | .hbm, ⟨21, _⟩ => ⟨S8x32x1x384x388, .f32⟩
  | .hbm, ⟨22, _⟩ => ⟨S8x32x1x384x388, .f32⟩
  | .hbm, ⟨23, _⟩ => ⟨S8x32x5x384x388, .f32⟩
  | .hbm, ⟨24, _⟩ => ⟨S8x32x5x384x384, .f32⟩
  | .hbm, ⟨25, _⟩ => ⟨S8x32x5x384x384, .f32⟩
  | .hbm, ⟨26, _⟩ => ⟨S8x32x5x384x384, .f32⟩
  | .hbm, ⟨27, _⟩ => ⟨S8x32x5x384x384, .f32⟩
  | .hbm, ⟨28, _⟩ => ⟨S8x32x5x384x384, .f32⟩
  | .hbm, ⟨29, _⟩ => ⟨S8x32x5x1x384x384, .f32⟩
  | .hbm, ⟨30, _⟩ => ⟨S8x32x5x1x384x384, .f32⟩
  | .hbm, ⟨31, _⟩ => ⟨S8x32x5x1x384x384, .f32⟩
  | .hbm, ⟨32, _⟩ => ⟨S8x32x5x1x384x384, .f32⟩
  | .hbm, ⟨33, _⟩ => ⟨S8x32x5x1x384x384, .f32⟩
  | .hbm, ⟨34, _⟩ => ⟨S8x32x5x5x384x384, .f32⟩
  | .hbm, ⟨35, _⟩ => ⟨S1x8x384x384, .f32⟩
  | .hbm, ⟨36, _⟩ => ⟨S8x1x384x384, .f32⟩
  | _, _ => ⟨S8x32x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Proof.ConvBlock.lean ====
/- One 5×5 convolution tap of a block, and the sum of the 25 taps, read at an index.

   A block of the image is an array x of I channels on 388 × 388 pixels, a block of the weights an array w of O × I
   filters of 5 × 5. The body works on a band of 48 rows at a time: for each tap (dy, dx) it takes the 48 × 384 window
   of x that starts at row h0 + dy and column dx, and adds the O × I matrix w[·, ·, dy, dx] times that window to an
   accumulator. Here: `tap`, one such step; `band`, the 25 steps; and what each holds at (o, r, c), namely the sum over
   the taps and the channels of w[o, j, dy, dx] · x[j, h0 + r + dy, c + dx]. -/
module

public import Idealize.ShloMosaic.Lib.Pipeline.Value
public import Idealize.ShloMosaic.Lib.Pipeline.FrameBody
public import Idealize.ShloMosaic.Lib.ValueIdx
public import Idealize.ShloMosaic.Lib.MatmulPlain
public import Idealize.ShloMosaic.PureOps.Ideal.Laws

@[expose] public section

noncomputable section

namespace Cert.Conv

open Idealize.ShloMosaic Idealize.SL.Sem
open Idealize.ShloMosaic.ValueIdx (ix2 ix3 ix4)

/-- A block of the image: I channels of 388 × 388 pixels. -/
abbrev XB (I : ℕ) : Shape := ⟨4, ![1, I, 388, 388]⟩
/-- A block of the weights: O × I filters of 5 × 5. -/
abbrev WB (O I : ℕ) : Shape := ⟨4, ![O, I, 5, 5]⟩
/-- A block of the result: O channels of 384 × 384 pixels. -/
abbrev OB (O : ℕ) : Shape := ⟨4, ![1, O, 384, 384]⟩
/-- A band of 48 rows of the result. -/
abbrev Band (O : ℕ) : Shape := ⟨4, ![1, O, 48, 384]⟩
/-- A band with its rows laid end to end. -/
abbrev Flat (O : ℕ) : Shape := ⟨2, ![O, 18432]⟩

section Ops
variable {F : FTy → Type} [FloatOps F]

theorem xInb (I r c : ℕ) (hr : r + 48 ≤ 388) (hc : c + 384 ≤ 388) :
    ∀ a : Fin 4, (![0, 0, r, c] : Fin 4 → ℕ) a + (![1, I, 48, 384] : Fin 4 → ℕ) a ≤ (XB I).size a
  | ⟨0, _⟩ => Nat.le_refl _
  | ⟨1, _⟩ => by show 0 + I ≤ I; omega
  | ⟨2, _⟩ => hr
  | ⟨3, _⟩ => hc

theorem wInb (O I dy dx : ℕ) (hy : dy < 5) (hx : dx < 5) :
    ∀ a : Fin 4, (![0, 0, dy, dx] : Fin 4 → ℕ) a + (![O, I, 1, 1] : Fin 4 → ℕ) a ≤ (WB O I).size a
  | ⟨0, _⟩ => by show 0 + O ≤ O; omega
  | ⟨1, _⟩ => by show 0 + I ≤ I; omega
  | ⟨2, _⟩ => hy
  | ⟨3, _⟩ => hx

theorem oInb (O h0 : ℕ) (hh : h0 + 48 ≤ 384) :
    ∀ a : Fin 4, (![0, 0, h0, 0] : Fin 4 → ℕ) a + (![1, O, 48, 384] : Fin 4 → ℕ) a ≤ (OB O).size a
  | ⟨0, _⟩ => Nat.le_refl _
  | ⟨1, _⟩ => by show 0 + O ≤ O; omega
  | ⟨2, _⟩ => hh
  | ⟨3, _⟩ => Nat.le_refl _

/-- The shape facts of one size of block: the casts between the spellings of a band, and the matrix product. -/
structure Sizes (O I : ℕ) where
  wCast : (⟨4, ![O, I, 1, 1]⟩ : Shape).ShapeCasts ⟨2, ![O, I]⟩
  xDrop : (Band I).ShapeCasts ⟨3, ![I, 48, 384]⟩
  xFlat : (⟨3, ![I, 48, 384]⟩ : Shape).ShapeCasts (Flat I)
  oUnflat : (Flat O).ShapeCasts ⟨3, ![O, 48, 384]⟩
  oAdd : (⟨3, ![O, 48, 384]⟩ : Shape).ShapeCasts (Band O)
  oDrop : (Band O).ShapeCasts ⟨3, ![O, 48, 384]⟩

variable {O I : ℕ} (S : Sizes O I)

/-- One tap: the accumulator plus w[·, ·, dy, dx] times the window of x at (r, dx). -/
def tap (x : Vec F (XB I) .f32) (w : Vec F (WB O I) .f32) (r dy dx : ℕ) (hr : r + 48 ≤ 388) (hy : dy < 5) (hx : dx < 5)
    (acc : FVec F (Flat O) .f32) : FVec F (Flat O) .f32 :=
  addf acc (matmul (DotDims.plain O I 18432) none
    (shapeCast ⟨2, ![O, I]⟩ (View.ld w (Rect.unit ![0, 0, dy, dx] ![O, I, 1, 1] (wInb O I dy dx hy hx))) S.wCast)
    (shapeCast (Flat I) (shapeCast ⟨3, ![I, 48, 384]⟩
      (View.ld x (Rect.unit ![0, 0, r, dx] ![1, I, 48, 384] (xInb I r dx hr (by omega)))) S.xDrop) S.xFlat)
    (constant (Flat O) .f32 0x00000000#32))

/-- The five taps of one row dy of the filter. -/
def tapRow (x : Vec F (XB I) .f32) (w : Vec F (WB O I) .f32) (r dy : ℕ) (hr : r + 48 ≤ 388) (hy : dy < 5)
    (acc : FVec F (Flat O) .f32) : FVec F (Flat O) .f32 :=
  tap S x w r dy 4 hr hy (by omega) (tap S x w r dy 3 hr hy (by omega) (tap S x w r dy 2 hr hy (by omega)
    (tap S x w r dy 1 hr hy (by omega) (tap S x w r dy 0 hr hy (by omega) acc))))

/-- The 25 taps of a band that starts at row h0, from zero. -/
def band (x : Vec F (XB I) .f32) (w : Vec F (WB O I) .f32) (h0 : ℕ) (hh : h0 + 48 ≤ 384) : FVec F ⟨3, ![O, 48, 384]⟩ .f32 :=
  shapeCast ⟨3, ![O, 48, 384]⟩
    (tapRow S x w (h0 + 4) 4 (by omega) (by omega) (tapRow S x w (h0 + 3) 3 (by omega) (by omega)
      (tapRow S x w (h0 + 2) 2 (by omega) (by omega) (tapRow S x w (h0 + 1) 1 (by omega) (by omega)
        (tapRow S x w (h0 + 0) 0 (by omega) (by omega) (broadcast (Flat O) (Scalar.ofBits .f32 0x00000000#32))))))) S.oUnflat

/-- What the first step of a block stores for a band: its 25 taps. -/
def bandFirst (x : Vec F (XB I) .f32) (w : Vec F (WB O I) .f32) (h0 : ℕ) (hh : h0 + 48 ≤ 384) : FVec F (Band O) .f32 :=
  shapeCast (Band O) (band S x w h0 hh) S.oAdd

/-- What a later step stores for a band: what the band held, plus its 25 taps. -/
def bandNext (x : Vec F (XB I) .f32) (w : Vec F (WB O I) .f32) (xo : Vec F (OB O) .f32) (h0 : ℕ) (hh : h0 + 48 ≤ 384) :
    FVec F (Band O) .f32 :=
  shapeCast (Band O) (addf (shapeCast ⟨3, ![O, 48, 384]⟩
    (View.ld xo (Rect.unit ![0, 0, h0, 0] ![1, O, 48, 384] (oInb O h0 hh))) S.oDrop) (band S x w h0 hh)) S.oAdd

/-- The eight stores of the first step, last first. -/
def piecesFirst (x : Vec F (XB I) .f32) (w : Vec F (WB O I) .f32) : List (View.Piece (Elt F) (OB O) .f32) :=
  let P (h0 : ℕ) (hh : h0 + 48 ≤ 384) : View.Piece (Elt F) (OB O) .f32 :=
    ⟨Rect.unit ![0, 0, h0, 0] ![1, O, 48, 384] (oInb O h0 hh), bandFirst S x w h0 hh⟩
  [P 336 (by omega), P 288 (by omega), P 240 (by omega), P 192 (by omega), P 144 (by omega), P 96 (by omega),
    P 48 (by omega), P 0 (by omega)]

/-- The eight stores of a later step, last first. -/
def piecesNext (x : Vec F (XB I) .f32) (w : Vec F (WB O I) .f32) (xo : Vec F (OB O) .f32) :
    List (View.Piece (Elt F) (OB O) .f32) :=
  let P (h0 : ℕ) (hh : h0 + 48 ≤ 384) : View.Piece (Elt F) (OB O) .f32 :=
    ⟨Rect.unit ![0, 0, h0, 0] ![1, O, 48, 384] (oInb O h0 hh), bandNext S x w xo h0 hh⟩
  [P 336 (by omega), P 288 (by omega), P 240 (by omega), P 192 (by omega), P 144 (by omega), P 96 (by omega),
    P 48 (by omega), P 0 (by omega)]

end Ops

/-! ## Read at an index -/

section Read
variable {O I : ℕ} (S : Sizes O I)

/-- The window product at one tap, over the channels of the block. -/
def tapSum (x : (XB I).Idx → EReal) (w : (WB O I).Idx → EReal) (o : Fin O) (h : ℕ) (c : Fin 384) (hh : h < 384)
    (dy dx : Fin 5) : EReal :=
  ∑ j : Fin I, w (ix4 o j dy dx) * x (ix4 0 j ⟨h + dy.val, by omega⟩ ⟨c.val + dx.val, by omega⟩)

/-- A block's convolution at (o, h, c): the sum over the 25 taps. -/
def blockSum (x : (XB I).Idx → EReal) (w : (WB O I).Idx → EReal) (y : (OB O).Idx) : EReal :=
  ∑ dy : Fin 5, ∑ dx : Fin 5, tapSum x w (y 1) (y 2).val (y 3) (y 2).isLt dy dx

theorem cast_apply {s t : Shape} {α : Type} (v : s.Idx → α) (h : s.ShapeCasts t) (j : t.Idx) (k : s.Idx)
    (e : (s.rowMajor k).val = (t.rowMajor j).val) : shapeCast t v h j = v k := by
  unfold shapeCast
  exact congrArg v (Shape.reshapeEquiv_eq_of_rowMajor h e)

/-- One tap, read at channel o and pixel (r, c) of the band. -/
theorem tap_apply (x : Vec Ideal (XB I) .f32) (w : Vec Ideal (WB O I) .f32) (h0 r : ℕ) (dy dx : Fin 5) (hr : h0 + dy.val + 48 ≤ 388)
    (hh : h0 + 48 ≤ 384)
    (acc : FVec Ideal (Flat O) .f32) (o : Fin O) (hr' : r < 48) (c : Fin 384) (p : Fin 18432) (hp : p.val = r * 384 + c.val) :
    tap S x w (h0 + dy.val) dy.val dx.val hr dy.isLt dx.isLt acc (ix2 o p)
      = acc (ix2 o p) + tapSum x w o (h0 + r) c (by omega) dy dx := by
  show acc (ix2 o p) + FloatOps.matmul (DotDims.plain O I 18432) none _ _ (constant (Flat O) .f32 0x00000000#32) (ix2 o p) = _
  congr 1
  rw [Ideal.matmul_plain_apply]
  show Ideal.ofBits .f32 0x00000000#32 + _ = _
  rw [Ideal.ofBits_zero_f32, zero_add]
  refine Finset.sum_congr rfl fun k _ => ?_
  congr 1
  · refine (cast_apply _ S.wCast _ (ix4 o k 0 0) ?_).trans ?_
    · rw [Shape.rowMajor_val_four, Shape.rowMajor_val_two]
      show ((o.val * I + k.val) * 1 + 0) * 1 + 0 = o.val * I + k.val
      omega
    · show w _ = w _
      congr 1
      funext a
      apply Fin.ext
      match a with
      | ⟨0, _⟩ => show 0 + 1 * o.val = o.val; omega
      | ⟨1, _⟩ => show 0 + 1 * k.val = k.val; omega
      | ⟨2, _⟩ => show dy.val + 1 * 0 = dy.val; omega
      | ⟨3, _⟩ => show dx.val + 1 * 0 = dx.val; omega
  · refine (cast_apply _ S.xFlat _ (ix3 k ⟨r, hr'⟩ c) ?_).trans ((cast_apply _ S.xDrop _ (ix4 0 k ⟨r, hr'⟩ c) ?_).trans ?_)
    · rw [Shape.rowMajor_val_three, Shape.rowMajor_val_two]
      show (k.val * 48 + r) * 384 + c.val = k.val * 18432 + p.val
      omega
    · rw [Shape.rowMajor_val_three, Shape.rowMajor_val_four]
      show ((0 * I + k.val) * 48 + r) * 384 + c.val = (k.val * 48 + r) * 384 + c.val
      omega
    · show x _ = x _
      congr 1
      funext a
      apply Fin.ext
      match a with
      | ⟨0, _⟩ => rfl
      | ⟨1, _⟩ => show 0 + 1 * k.val = k.val; omega
      | ⟨2, _⟩ => show h0 + dy.val + 1 * r = h0 + r + dy.val; omega
      | ⟨3, _⟩ => show dx.val + 1 * c.val = c.val + dx.val; omega

/-- Five taps in a row of the filter add their five window products. -/
theorem tapRow_apply (x : Vec Ideal (XB I) .f32) (w : Vec Ideal (WB O I) .f32) (h0 r : ℕ) (dy : Fin 5) (hr : h0 + dy.val + 48 ≤ 388)
    (hh : h0 + 48 ≤ 384) (acc : FVec Ideal (Flat O) .f32) (o : Fin O) (hr' : r < 48) (c : Fin 384) (p : Fin 18432)
    (hp : p.val = r * 384 + c.val) :
    tapRow S x w (h0 + dy.val) dy.val hr dy.isLt acc (ix2 o p)
      = acc (ix2 o p) + ∑ dx : Fin 5, tapSum x w o (h0 + r) c (by omega) dy dx := by
  have T := fun (dx : Fin 5) acc => tap_apply S x w h0 r dy dx hr hh acc o hr' c p hp
  refine (T 4 _).trans ?_
  refine (congrArg (· + _) ((T 3 _).trans (congrArg (· + _) ((T 2 _).trans (congrArg (· + _) ((T 1 _).trans
    (congrArg (· + _) (T 0 _)))))))).trans ?_
  simp only [Fin.sum_univ_five, add_assoc]

/-- A band at channel o and pixel (r, c): the sum over the 25 taps at row h0 + r. -/
theorem band_apply (x : Vec Ideal (XB I) .f32) (w : Vec Ideal (WB O I) .f32) (h0 : ℕ) (hh : h0 + 48 ≤ 384) (o : Fin O) (r : Fin 48)
    (c : Fin 384) : band S x w h0 hh (ix3 o r c) = blockSum x w (ix4 0 o ⟨h0 + r.val, by omega⟩ c) := by
  have hp : r.val * 384 + c.val < 18432 := by omega
  refine (cast_apply _ S.oUnflat _ (ix2 o ⟨r.val * 384 + c.val, hp⟩) ?_).trans ?_
  · rw [Shape.rowMajor_val_three, Shape.rowMajor_val_two]
    show o.val * 18432 + (r.val * 384 + c.val) = (o.val * 48 + r.val) * 384 + c.val
    omega
  · have T := fun (dy : Fin 5) acc => tapRow_apply S x w h0 r.val dy (by omega) hh acc o r.isLt c ⟨r.val * 384 + c.val, hp⟩ rfl
    refine (T 4 _).trans ?_
    refine (congrArg (· + _) ((T 3 _).trans (congrArg (· + _) ((T 2 _).trans (congrArg (· + _) ((T 1 _).trans
      (congrArg (· + _) (T 0 _)))))))).trans ?_
    have z : (broadcast (Flat O) (Scalar.ofBits .f32 0x00000000#32) : FVec Ideal (Flat O) .f32) (ix2 o ⟨r.val * 384 + c.val, hp⟩)
        = (0 : EReal) := Ideal.ofBits_zero_f32
    rw [z, zero_add]
    unfold blockSum
    simp only [Fin.sum_univ_five, add_assoc]
    rfl

/-- Where an element of a band lies in the block. -/
theorem band_emb (h0 : ℕ) (hh : h0 + 48 ≤ 384) (o : Fin O) (r : Fin 48) (c : Fin 384) :
    (Rect.unit (s := OB O) ![0, 0, h0, 0] ![1, O, 48, 384] (oInb O h0 hh)).emb (ix4 0 o r c) = ix4 0 o ⟨h0 + r.val, by omega⟩ c := by
  funext a
  apply Fin.ext
  match a with
  | ⟨0, _⟩ => rfl
  | ⟨1, _⟩ => show 0 + 1 * o.val = o.val; omega
  | ⟨2, _⟩ => show h0 + 1 * r.val = h0 + r.val; omega
  | ⟨3, _⟩ => show 0 + 1 * c.val = c.val; omega

theorem ix4_eta {n1 n2 n3 : ℕ} (z : (⟨4, ![1, n1, n2, n3]⟩ : Shape).Idx) : z = ix4 0 (z 1) (z 2) (z 3) := by
  funext a
  match a with
  | ⟨0, _⟩ => exact Subsingleton.elim (α := Fin 1) _ _
  | ⟨1, _⟩ => rfl
  | ⟨2, _⟩ => rfl
  | ⟨3, _⟩ => rfl

theorem add_cast_apply (v : FVec Ideal ⟨3, ![O, 48, 384]⟩ .f32) (o : Fin O) (r : Fin 48) (c : Fin 384) :
    shapeCast (Band O) v S.oAdd (ix4 0 o r c) = v (ix3 o r c) := by
  refine cast_apply _ S.oAdd _ (ix3 o r c) ?_
  rw [Shape.rowMajor_val_three, Shape.rowMajor_val_four]
  show (o.val * 48 + r.val) * 384 + c.val = ((0 * O + o.val) * 48 + r.val) * 384 + c.val
  omega

theorem drop_cast_apply (v : FVec Ideal (Band O) .f32) (o : Fin O) (r : Fin 48) (c : Fin 384) :
    shapeCast ⟨3, ![O, 48, 384]⟩ v S.oDrop (ix3 o r c) = v (ix4 0 o r c) := by
  refine cast_apply _ S.oDrop _ (ix4 0 o r c) ?_
  rw [Shape.rowMajor_val_three, Shape.rowMajor_val_four]
  show ((0 * O + o.val) * 48 + r.val) * 384 + c.val = (o.val * 48 + r.val) * 384 + c.val
  omega

/-- What the first step stores for a band is the convolution at the band's place. -/
theorem bandFirst_apply (x : Vec Ideal (XB I) .f32) (w : Vec Ideal (WB O I) .f32) (h0 : ℕ) (hh : h0 + 48 ≤ 384) (z : (Band O).Idx) :
    bandFirst S x w h0 hh z = blockSum x w ((Rect.unit (s := OB O) ![0, 0, h0, 0] ![1, O, 48, 384] (oInb O h0 hh)).emb z) := by
  rw [ix4_eta z]
  refine (add_cast_apply S _ _ _ _).trans ((band_apply S x w h0 hh _ _ _).trans (congrArg (blockSum x w) (band_emb h0 hh _ _ _).symm))

/-- What a later step stores for a band is what the block held there plus the convolution. -/
theorem bandNext_apply (x : Vec Ideal (XB I) .f32) (w : Vec Ideal (WB O I) .f32) (xo : Vec Ideal (OB O) .f32) (h0 : ℕ) (hh : h0 + 48 ≤ 384)
    (z : (Band O).Idx) :
    bandNext S x w xo h0 hh z = (fun y => xo y + blockSum x w y : (OB O).Idx → EReal)
      ((Rect.unit (s := OB O) ![0, 0, h0, 0] ![1, O, 48, 384] (oInb O h0 hh)).emb z) := by
  rw [ix4_eta z]
  refine (add_cast_apply S _ _ _ _).trans ?_
  refine congrArg₂ (· + ·) ?_ ((band_apply S x w h0 hh _ _ _).trans (congrArg (blockSum x w) (band_emb h0 hh _ _ _).symm))
  exact drop_cast_apply S _ _ _ _

/-- THE FIRST STEP of a block leaves the convolution of the two input blocks. -/
theorem canon_first (x : Vec Ideal (XB I) .f32) (w : Vec Ideal (WB O I) .f32) (y : (OB O).Idx)
    (hy : ∃ p ∈ piecesFirst S x w, y ∈ p.1.set) : View.canon (piecesFirst S x w) y = blockSum x w y := by
  refine View.canon_apply_of_pieces (blockSum x w) _ (fun p hp => ?_) y hy
  simp only [piecesFirst, List.mem_cons, List.not_mem_nil, or_false] at hp
  rcases hp with rfl | rfl | rfl | rfl | rfl | rfl | rfl | rfl <;> (intro z; apply bandFirst_apply S x w) <;> decide

/-- A LATER STEP leaves what the block held plus the convolution of the two input blocks. -/
theorem canon_next (x : Vec Ideal (XB I) .f32) (w : Vec Ideal (WB O I) .f32) (xo : Vec Ideal (OB O) .f32) (y : (OB O).Idx)
    (hy : ∃ p ∈ piecesNext S x w xo, y ∈ p.1.set) :
    View.canon (piecesNext S x w xo) y = (fun y => xo y + blockSum x w y : (OB O).Idx → EReal) y := by
  refine View.canon_apply_of_pieces (fun y => xo y + blockSum x w y : (OB O).Idx → EReal) _ (fun p hp => ?_) y hy
  simp only [piecesNext, List.mem_cons, List.not_mem_nil, or_false] at hp
  rcases hp with rfl | rfl | rfl | rfl | rfl | rfl | rfl | rfl <;> (intro z; apply bandNext_apply S x w xo) <;> decide

/-! ## The whole convolution, block by block over the channels -/

/-- An array of B × n images of R × C. -/
abbrev Arr (B n R C : ℕ) : Shape := ⟨4, ![B, n, R, C]⟩

/-- The convolution of the padded images X with the filters W at image b, filter o and pixel (h, c): the sum over the 25
    taps and all n channels. -/
def conv {B M n : ℕ} (X : (Arr B n 388 388).Idx → EReal) (W : (Arr M n 5 5).Idx → EReal) (y : (Arr B M 384 384).Idx) : EReal :=
  ∑ dy : Fin 5, ∑ dx : Fin 5, ∑ j : Fin n, W (ix4 (y 1) j dy dx)
    * X (ix4 (y 0) j ⟨(y 2).val + dy.val, by have h : (y 2).val < 384 := (y 2).isLt; omega⟩
        ⟨(y 3).val + dx.val, by have h : (y 3).val < 384 := (y 3).isLt; omega⟩)

/-- A sum over K groups of I channels is the sum over the K · I channels. -/
theorem sum_groups {K I : ℕ} (f : Fin (K * I) → EReal) :
    (∑ k : Fin K, ∑ j : Fin I, f (finProdFinEquiv (k, j))) = ∑ n : Fin (K * I), f n := by
  rw [← Equiv.sum_comp finProdFinEquiv f, Fintype.sum_prod_type]

/-- THE CHANNEL BLOCKS ADD UP: the K block convolutions, over blocks x k and w k that hold the k-th group of I channels of
    image b and of the filters of y, sum to the convolution over all channels. -/
theorem sum_blocks {B M K : ℕ} (X : (Arr B (K * I) 388 388).Idx → EReal) (W : (Arr M (K * I) 5 5).Idx → EReal)
    (x : Fin K → (XB I).Idx → EReal) (w : Fin K → (WB O I).Idx → EReal) (z : (OB O).Idx) (b : Fin B) (o : Fin M)
    (hx : ∀ k (j : Fin I) r c, x k (ix4 0 j r c) = X (ix4 b (finProdFinEquiv (k, j)) r c))
    (hw : ∀ k (j : Fin I) dy dx, w k (ix4 (z 1) j dy dx) = W (ix4 o (finProdFinEquiv (k, j)) dy dx)) :
    (∑ k : Fin K, blockSum (x k) (w k) z) = conv X W (ix4 b o (z 2) (z 3)) := by
  unfold blockSum conv tapSum
  rw [Finset.sum_comm]
  refine Finset.sum_congr rfl fun dy _ => ?_
  rw [Finset.sum_comm]
  refine Finset.sum_congr rfl fun dx _ => ?_
  refine Eq.trans ?_ (sum_groups _)
  refine Finset.sum_congr rfl fun k _ => Finset.sum_congr rfl fun j _ => ?_
  rw [hx, hw]
  rfl

/-- AN ACCUMULATOR THAT RESTARTS: values v with v = g at the multiples of K and v n = v (n-1) + g n elsewhere hold at
    K · q + r the sum of g over K · q, …, K · q + r. -/
theorem restart_sum {N K : ℕ} (v g : (n : ℕ) → n < N → EReal) (h0 : ∀ n h, n % K = 0 → v n h = g n h)
    (h1 : ∀ n h, n % K ≠ 0 → v n h = v (n - 1) (by omega) + g n h) (q : ℕ) :
    ∀ r (_ : r < K) (h : K * q + r < N), v (K * q + r) h = ∑ i : Fin (r + 1), g (K * q + i.val) (by omega)
  | 0, _, h => by
    rw [h0 _ h (by simp)]
    simp
  | r + 1, hr, h => by
    have hm : (K * q + (r + 1)) % K = r + 1 := by rw [Nat.mul_add_mod, Nat.mod_eq_of_lt hr]
    rw [h1 _ h (by omega), Fin.sum_univ_castSucc]
    congr 1
    exact restart_sum v g h0 h1 q r (by omega) (by omega)

end Read

end Cert.Conv

end
-- ==== Proof.Conv1Value.lean ====
/- The kernel's first convolution, read off its run.

   The call runs over points t = (b, o): image b of 8, filter block o of 2 (16 filters each). Point t reads the one channel
   of the padded image b and filters 16o … 16o+15, and stores the 5 × 5 convolution of the two blocks (ConvBlock.lean).
   Each block of the result is written once, so the result array holds at (b, i, h, c) the convolution. -/
module

public import proofs.«01_k».proof.Proof.Gen.Conv1Ideal.Value
public import proofs.«01_k».proof.Proof.ConvBlock
public import Idealize.ShloMosaic.Lib.Pipeline.ValueKit

@[expose] public section

noncomputable section

namespace Cert.Conv1Ideal.Closed

open Cert.Conv1Ideal Cert.Conv1Ideal.Gen Idealize.ShloMosaic Idealize.ShloMosaic.TcCoe Idealize.ShloMosaic.Tactic Idealize.SL.Sem
open Idealize.ShloMosaic.Pipeline (Dat)
open Idealize.ShloMosaic.ValueIdx (ix4)
open Cert.Conv (blockSum conv)

set_option maxRecDepth 100000

theorem sizes : Cert.Conv.Sizes 16 1 := ⟨by decide, by decide, by decide, by decide, by decide, by decide⟩

variable (m : (ℓ : Loc nD τ sig) → Buf (Elt Ideal) ℓ)

section Steps
variable (c : Dev nD) (i : grid0.Coords) (a0 : Memref sig .tc .vmem S1x1x388x388 .f32) (h0 : a0.IsWhole)
  (a1 : Memref sig .tc .vmem S16x1x5x5 .f32) (h1 : a1.IsWhole) (a2 : Memref sig .tc .vmem S1x16x384x384 .f32) (h2 : a2.IsWhole)
  (x : Vec Ideal S1x1x388x388 .f32) (w : Vec Ideal S16x1x5x5 .f32)

/-- The body leaves the convolution of its two blocks. -/
theorem first_eq (hc0 hc1 hc2 hc3 hc4 hc5 hc6 hc7 hc8 hc9 hc10 hc11 hc12 hc13 hc14 hc15) (y : S1x16x384x384.Idx) :
    out0_A_2 c i a0 h0 a1 h1 a2 h2 hc0 hc1 hc2 hc3 hc4 hc5 hc6 hc7 hc8 hc9 hc10 hc11 hc12 hc13 hc14 hc15 x w y
      = blockSum (O := 16) (I := 1) x w y := by
  have e : (kernelRun0_A c i a0 h0 a1 h1 a2 h2 hc0 hc1 hc2 hc3 hc4 hc5 hc6 hc7 hc8 hc9 hc10 hc11 hc12 hc13 hc14 hc15 x w).1
      = Cert.Conv.piecesFirst sizes x w := by
    unfold kernelRun0_A
    dsimp only
    sl_unfold_words
    simp only [View.readAt_eq_ld, h0.read_unread, h1.read_unread]
    rfl
  have cov := cover0_A_2 c i a0 h0 a1 h1 a2 h2 hc0 hc1 hc2 hc3 hc4 hc5 hc6 hc7 hc8 hc9 hc10 hc11 hc12 hc13 hc14 hc15 x w
  unfold out0_A_2
  rw [View.read_writes_eq_canon _ _ _ cov, e]
  rw [e] at cov
  exact Cert.Conv.canon_first sizes x w y (cov y)

end Steps

theorem index0 : ∀ t : Fin cfg0.N, win0_0.index t = ![t.val / 2, 0, 0, 0] := (by decide +kernel : ∀ t : Fin grid0.N, _)
theorem index1 : ∀ t : Fin cfg0.N, win0_1.index t = ![t.val % 2, 0, 0, 0] := (by decide +kernel : ∀ t : Fin grid0.N, _)
theorem index2 : ∀ t : Fin cfg0.N, win0_2.index t = ![t.val / 2, t.val % 2, 0, 0] := (by decide +kernel : ∀ t : Fin grid0.N, _)

/-- THE RESULT ARRAY is the convolution of the padded images by the filters the call is given. -/
theorem final (c : Dev nD) :
    (dats m 0 c).arrAt 2 cfg0.N = conv (B := 8) (M := 32) (n := 1) (V m c main_v6) (V m c main_v5) := by
  refine (dats m 0 c).arrAt_eq_of_covers 2 _ (by decide +kernel) fun t _ y => ?_
  have ht : t.val < 16 := lt_of_lt_of_eq t.isLt N_0
  have hy1 : (y 1).val < 16 := (y 1).isLt
  blk_simp
  rw [after0_2]
  refine (first_eq ..).trans ?_
  refine Eq.trans (b := ∑ k : Fin 1, blockSum (O := 16) (I := 1) (iblk m c 0 t) (iblk m c 1 t) y) (by simp) ?_
  refine Eq.trans (Cert.Conv.sum_blocks (K := 1) (I := 1) (O := 16) (B := 8) (M := 32) (V m c main_v6) (V m c main_v5)
    (fun _ => iblk m c 0 t) (fun _ => iblk m c 1 t) y
    ⟨t.val / 2, by omega⟩ ⟨16 * (t.val % 2) + (y 1).val, by omega⟩ (fun k j r l => ?_) (fun k j dy dx => ?_)) ?_
  · blk_ext [iblk, index0, finProdFinEquiv_apply_val]
  · blk_ext [iblk, index1, finProdFinEquiv_apply_val]
    show t.val % 2 * 16 + (y 1).val = 16 * (t.val % 2) + (y 1).val
    omega
  · refine congrArg (conv (B := 8) (M := 32) (n := 1) (V m c main_v6) (V m c main_v5)) ?_
    blk_ext [index2]

end Cert.Conv1Ideal.Closed

end
-- ==== Proof.RefConv.lean ====
/- The reference's 5 × 5 convolution, and its adjoint, read at an index.

   The reference stacks the padded images X shifted by each (dy, dx), rows first and columns second, and multiplies the stack
   by the filters, summing over the channels and both shifts. Here: `shifts`, the stack as a host program computes it (slices,
   unit axes, concatenations), for any list of five offsets; what it holds, X[b, j, off dy + h, off dx + c]; and the product
   summed over three axes. With the offsets 0 … 4 the result is the convolution `conv` of ConvBlock.lean; with 4 … 0 and
   the filters' first axis summed it is the adjoint, the convolution by the filters transposed and turned by half a turn. -/
module

public import proofs.«01_k».proof.Proof.ConvBlock
public import Idealize.ShloMosaic.Lib.ValueIdxRank6

@[expose] public section

noncomputable section

namespace Cert.Conv

open Idealize.ShloMosaic Idealize.SL.Sem
open Idealize.ShloMosaic.ValueIdx (ix4 ix5 ix6 eq_ix6)

section Stack

/-- Five arrays of extent 1 along an axis, joined along it, at an index: the array the axis coordinate names. -/
theorem joined_apply {α : Type} {t s : Shape} (a : Fin t.rank) (f : Fin 5 → s.Idx → α)
    (h : Shape.Concatenates [s, s, s, s, s] t a) (hr : s.rank = t.rank) (h1 : s.size (a.cast hr.symm) = 1)
    (j : t.Idx) (k : Fin 5) (hk : (j a).val = k.val) (i : s.Idx)
    (hi : ∀ b : Fin s.rank, b.cast hr ≠ a → (i b).val = (j (b.cast hr)).val) :
    concatenate t a [⟨s, f 0⟩, ⟨s, f 1⟩, ⟨s, f 2⟩, ⟨s, f 3⟩, ⟨s, f 4⟩] h j = f k i := by
  have z : (i (a.cast hr.symm)).val = 0 := by have := (i (a.cast hr.symm)).isLt; omega
  have sz : (if h : s.rank = t.rank then s.size (a.cast h.symm) else 0) = 1 := by rw [dif_pos hr, h1]
  refine concatenate_apply_piece a [⟨s, f 0⟩, ⟨s, f 1⟩, ⟨s, f 2⟩, ⟨s, f 3⟩, ⟨s, f 4⟩] h j k.val (by simp) s (f k) ?_ hr k.val ?_ i hi (by rw [z, hk]; omega)
  · match k with
    | ⟨0, _⟩ => rfl
    | ⟨1, _⟩ => rfl
    | ⟨2, _⟩ => rfl
    | ⟨3, _⟩ => rfl
    | ⟨4, _⟩ => rfl
  · match k with
    | ⟨0, _⟩ => simp
    | ⟨1, _⟩ => simp [sz]
    | ⟨2, _⟩ => simp [sz]
    | ⟨3, _⟩ => simp [sz]
    | ⟨4, _⟩ => simp [sz]

variable {B n : ℕ}

abbrev Rows (B n k : ℕ) : Shape := ⟨5, ![B, n, k, 384, 388]⟩
abbrev Cut (B n : ℕ) : Shape := ⟨5, ![B, n, 5, 384, 384]⟩
abbrev Stack (B n k : ℕ) : Shape := ⟨6, ![B, n, 5, k, 384, 384]⟩

/-- The shape facts of the stack at five offsets. -/
structure StackFacts (B n : ℕ) (off : Fin 5 → ℕ) : Prop where
  le : ∀ d, off d ≤ 4
  rs : ∀ d, (Arr B n 388 388).Slices ![0, 0, off d, 0] (Arr B n 384 388)
  rb : (Arr B n 384 388).BroadcastsInDim (Rows B n 1) (![0, 1, 3, 4] : Fin 4 → Fin 5)
  rc : Shape.Concatenates [Rows B n 1, Rows B n 1, Rows B n 1, Rows B n 1, Rows B n 1] (Rows B n 5) 2
  cs : ∀ d, (Rows B n 5).Slices ![0, 0, 0, 0, off d] (Cut B n)
  cb : (Cut B n).BroadcastsInDim (Stack B n 1) (![0, 1, 2, 4, 5] : Fin 5 → Fin 6)
  cc : Shape.Concatenates [Stack B n 1, Stack B n 1, Stack B n 1, Stack B n 1, Stack B n 1] (Stack B n 5) 3

variable {F : FTy → Type} [FloatOps F] {off : Fin 5 → ℕ}

/-- The images shifted along the rows by one offset, under a new axis. -/
def rowShift (S : StackFacts B n off) (X : Vec F (Arr B n 388 388) .f32) (d : Fin 5) : Vec F (Rows B n 1) .f32 :=
  broadcastInDim (Rows B n 1) ![0, 1, 3, 4] S.rb (extractStridedSlice (Arr B n 384 388) ![0, 0, off d, 0] X (S.rs d))

def rowShifts (S : StackFacts B n off) (X : Vec F (Arr B n 388 388) .f32) : Vec F (Rows B n 5) .f32 :=
  concatenate (Rows B n 5) 2 [⟨Rows B n 1, rowShift S X 0⟩, ⟨Rows B n 1, rowShift S X 1⟩, ⟨Rows B n 1, rowShift S X 2⟩,
    ⟨Rows B n 1, rowShift S X 3⟩, ⟨Rows B n 1, rowShift S X 4⟩] S.rc

/-- The row shifts shifted along the columns by one offset, under a new axis. -/
def colShift (S : StackFacts B n off) (R : Vec F (Rows B n 5) .f32) (d : Fin 5) : Vec F (Stack B n 1) .f32 :=
  broadcastInDim (Stack B n 1) ![0, 1, 2, 4, 5] S.cb (extractStridedSlice (Cut B n) ![0, 0, 0, 0, off d] R (S.cs d))

/-- The stack: shift (off dy, off dx) of the images at (·, ·, dy, dx, ·, ·). -/
def shifts (S : StackFacts B n off) (X : Vec F (Arr B n 388 388) .f32) : Vec F (Stack B n 5) .f32 :=
  concatenate (Stack B n 5) 3 [⟨Stack B n 1, colShift S (rowShifts S X) 0⟩, ⟨Stack B n 1, colShift S (rowShifts S X) 1⟩,
    ⟨Stack B n 1, colShift S (rowShifts S X) 2⟩, ⟨Stack B n 1, colShift S (rowShifts S X) 3⟩,
    ⟨Stack B n 1, colShift S (rowShifts S X) 4⟩] S.cc

/-- A coordinate kept by a broadcast that adds unit axes, whether or not its axis has extent 1. -/
theorem kept {k : ℕ} (x : Fin k) : x.val = if k = 1 then 0 else x.val := by
  split
  · omega
  · rfl

theorem rowShifts_apply (S : StackFacts B n off) (X : Vec F (Arr B n 388 388) .f32) (b : Fin B) (j : Fin n) (d : Fin 5)
    (h : Fin 384) (c : Fin 388) (p : Fin 388) (hp : p.val = off d + h.val) :
    rowShifts S X (ix5 b j d h c) = X (ix4 b j p c) := by
  refine (joined_apply (t := Rows B n 5) (s := Rows B n 1) 2 (rowShift S X) S.rc rfl rfl (ix5 b j d h c) d rfl
    (ix5 b j 0 h c) (fun a ha => ?_)).trans ?_
  · match a with
    | ⟨0, _⟩ => rfl
    | ⟨1, _⟩ => rfl
    | ⟨2, _⟩ => exact absurd rfl ha
    | ⟨3, _⟩ => rfl
    | ⟨4, _⟩ => rfl
  refine (broadcastInDim_apply _ S.rb _ (ix5 b j 0 h c) (ix4 b j h c) ?_).trans ?_
  · intro a
    match a with
    | ⟨0, _⟩ => exact kept b
    | ⟨1, _⟩ => exact kept j
    | ⟨2, _⟩ => exact kept h
    | ⟨3, _⟩ => exact kept c
  refine extractStridedSlice_apply _ X (S.rs d) (ix4 b j h c) (ix4 b j p c) (fun a => ?_)
  match a with
  | ⟨0, _⟩ => show b.val = 0 + b.val; omega
  | ⟨1, _⟩ => show j.val = 0 + j.val; omega
  | ⟨2, _⟩ => exact hp
  | ⟨3, _⟩ => show c.val = 0 + c.val; omega

/-- What the stack holds. -/
theorem shifts_apply (S : StackFacts B n off) (X : Vec F (Arr B n 388 388) .f32) (b : Fin B) (j : Fin n) (dy dx : Fin 5)
    (h c : Fin 384) (p q : Fin 388) (hp : p.val = off dy + h.val) (hq : q.val = off dx + c.val) :
    shifts S X (ix6 b j dy dx h c) = X (ix4 b j p q) := by
  refine (joined_apply (t := Stack B n 5) (s := Stack B n 1) 3 (colShift S (rowShifts S X)) S.cc rfl rfl (ix6 b j dy dx h c) dx rfl
    (ix6 b j dy 0 h c) (fun a ha => ?_)).trans ?_
  · match a with
    | ⟨0, _⟩ => rfl
    | ⟨1, _⟩ => rfl
    | ⟨2, _⟩ => rfl
    | ⟨3, _⟩ => exact absurd rfl ha
    | ⟨4, _⟩ => rfl
    | ⟨5, _⟩ => rfl
  refine (broadcastInDim_apply _ S.cb _ (ix6 b j dy 0 h c) (ix5 b j dy h c) ?_).trans ?_
  · intro a
    match a with
    | ⟨0, _⟩ => exact kept b
    | ⟨1, _⟩ => exact kept j
    | ⟨2, _⟩ => exact kept dy
    | ⟨3, _⟩ => exact kept h
    | ⟨4, _⟩ => exact kept c
  refine (extractStridedSlice_apply _ _ (S.cs dx) (ix5 b j dy h c) (ix5 b j dy h q) (fun a => ?_)).trans
    (rowShifts_apply S X b j dy h q p hp)
  match a with
  | ⟨0, _⟩ => show b.val = 0 + b.val; omega
  | ⟨1, _⟩ => show j.val = 0 + j.val; omega
  | ⟨2, _⟩ => show dy.val = 0 + dy.val; omega
  | ⟨3, _⟩ => show h.val = 0 + h.val; omega
  | ⟨4, _⟩ => exact hq

end Stack

section Product
variable {B M n : ℕ}

/-- The indices of a product summed over three axes are triples. -/
def tripleEquiv (a b c : ℕ) : (Shape.ofList [a, b, c]).Idx ≃ Fin a × Fin b × Fin c where
  toFun q := (q ⟨0, Nat.lt_of_lt_of_eq (by decide : 0 < 3) rfl⟩, q ⟨1, Nat.lt_of_lt_of_eq (by decide : 1 < 3) rfl⟩,
    q ⟨2, Nat.lt_of_lt_of_eq (by decide : 2 < 3) rfl⟩)
  invFun p := fun k => match k with
    | ⟨0, _⟩ => p.1
    | ⟨1, _⟩ => p.2.1
    | ⟨2, _⟩ => p.2.2
  left_inv q := by
    funext k
    match k with
    | ⟨0, _⟩ => rfl
    | ⟨1, _⟩ => rfl
    | ⟨2, _⟩ => rfl
  right_inv _ := rfl

theorem triple_0 (a b c : ℕ) (p : Fin a × Fin b × Fin c) (h) : ((tripleEquiv a b c).symm p ⟨0, h⟩ : ℕ) = p.1.val := rfl
theorem triple_1 (a b c : ℕ) (p : Fin a × Fin b × Fin c) (h) : ((tripleEquiv a b c).symm p ⟨1, h⟩ : ℕ) = p.2.1.val := rfl
theorem triple_2 (a b c : ℕ) (p : Fin a × Fin b × Fin c) (h) : ((tripleEquiv a b c).symm p ⟨2, h⟩ : ℕ) = p.2.2.val := rfl

/-- The convolution's product: channels, columns' shift and rows' shift summed. -/
abbrev fwdDims (h : DotDims.WF (Arr M n 5 5) (Stack B n 5) (Arr M B 384 384) [1, 3, 2] [1, 3, 2] [0] [0, 4, 5] [] []) :
    DotDims (Arr M n 5 5) (Stack B n 5) (Arr M B 384 384) where
  lhsContracting := [1, 3, 2]
  rhsContracting := [1, 3, 2]
  lhsNonContracting := [0]
  rhsNonContracting := [0, 4, 5]
  lhsBatch := []
  rhsBatch := []
  wf := h

/-- The adjoint's product: the filters' first axis summed. -/
abbrev adjDims (h : DotDims.WF (Arr n M 5 5) (Stack B n 5) (Arr M B 384 384) [0, 3, 2] [1, 3, 2] [1] [0, 4, 5] [] []) :
    DotDims (Arr n M 5 5) (Stack B n 5) (Arr M B 384 384) where
  lhsContracting := [0, 3, 2]
  rhsContracting := [1, 3, 2]
  lhsNonContracting := [1]
  rhsNonContracting := [0, 4, 5]
  lhsBatch := []
  rhsBatch := []
  wf := h

/-- The reference's convolution as it is computed. -/
def refConv {F : FTy → Type} [FloatOps F] (S : StackFacts B n fun d => d.val)
    (wf : DotDims.WF (Arr M n 5 5) (Stack B n 5) (Arr M B 384 384) [1, 3, 2] [1, 3, 2] [0] [0, 4, 5] [] [])
    (tr : (Arr M B 384 384).Transposes [1, 0, 2, 3] (Arr B M 384 384)) (X : Vec F (Arr B n 388 388) .f32)
    (W : Vec F (Arr M n 5 5) .f32) : Vec F (Arr B M 384 384) .f32 :=
  transpose (Arr B M 384 384) [1, 0, 2, 3] (Host.dotGeneral (fwdDims wf) none W (shifts S X)) tr

/-- The reference's adjoint as it is computed. -/
def refAdj {F : FTy → Type} [FloatOps F] (S : StackFacts B n fun d => 4 - d.val)
    (wf : DotDims.WF (Arr n M 5 5) (Stack B n 5) (Arr M B 384 384) [0, 3, 2] [1, 3, 2] [1] [0, 4, 5] [] [])
    (tr : (Arr M B 384 384).Transposes [1, 0, 2, 3] (Arr B M 384 384)) (X : Vec F (Arr B n 388 388) .f32)
    (W : Vec F (Arr n M 5 5) .f32) : Vec F (Arr B M 384 384) .f32 :=
  transpose (Arr B M 384 384) [1, 0, 2, 3] (Host.dotGeneral (adjDims wf) none W (shifts S X)) tr

theorem exists_ix4 {a b c d : ℕ} (y : (⟨4, ![a, b, c, d]⟩ : Shape).Idx) : ∃ p q r s, y = ix4 p q r s := by
  refine ⟨y 0, y 1, y 2, y 3, funext fun k => ?_⟩
  match k with
  | ⟨0, _⟩ => rfl
  | ⟨1, _⟩ => rfl
  | ⟨2, _⟩ => rfl
  | ⟨3, _⟩ => rfl

theorem swap_apply {α : Type} (tr : (Arr M B 384 384).Transposes [1, 0, 2, 3] (Arr B M 384 384)) (v : (Arr M B 384 384).Idx → α)
    (b : Fin B) (o : Fin M) (h c : Fin 384) :
    transpose (Arr B M 384 384) [1, 0, 2, 3] v tr (ix4 b o h c) = v (ix4 o b h c) :=
  transpose_apply [1, 0, 2, 3] v tr (ix4 b o h c) (ix4 o b h c) (fun a => match a with
    | ⟨0, _⟩ => rfl
    | ⟨1, _⟩ => rfl
    | ⟨2, _⟩ => rfl
    | ⟨3, _⟩ => rfl)

/-- A sum over channel, dx, dy, reordered as dy, dx, channel. -/
theorem sum_reorder (f : Fin n → Fin 5 → Fin 5 → EReal) :
    ∑ p : Fin n × Fin 5 × Fin 5, f p.1 p.2.1 p.2.2 = ∑ dy : Fin 5, ∑ dx : Fin 5, ∑ j : Fin n, f j dx dy := by
  rw [Fintype.sum_prod_type]
  simp only [Fintype.sum_prod_type]
  rw [Finset.sum_comm]
  conv_lhs => enter [2, dx]; rw [Finset.sum_comm]
  rw [Finset.sum_comm]

/-- The reference's convolution at an index. -/
theorem refConv_apply (S : StackFacts B n fun d => d.val) (wf) (tr) (X : Vec Ideal (Arr B n 388 388) .f32)
    (W : Vec Ideal (Arr M n 5 5) .f32) (y : (Arr B M 384 384).Idx) :
    refConv S wf tr X W y = conv X W y := by
  obtain ⟨b, o, h, c, rfl⟩ := exists_ix4 y
  refine (swap_apply tr _ b o h c).trans ?_
  simp only [Host.dotGeneral]
  rw [Ideal.dotGeneral_apply]
  refine ((Equiv.sum_comp (tripleEquiv n 5 5).symm _).symm).trans ?_
  refine Eq.trans ?_ (sum_reorder fun j dx dy => W (ix4 o j dy dx) *
    X (ix4 b j ⟨h.val + dy.val, by omega⟩ ⟨c.val + dx.val, by omega⟩))
  refine Finset.sum_congr rfl fun p _ => ?_
  obtain ⟨j, dx, dy⟩ := p
  have el : (fwdDims wf).lhsIdx (ix4 o b h c) ((tripleEquiv n 5 5).symm (j, dx, dy)) = ix4 o j dy dx := by
    funext a; apply Fin.ext
    match a with
    | ⟨0, _⟩ => rfl
    | ⟨1, _⟩ => exact triple_0 n 5 5 (j, dx, dy) (Nat.lt_of_lt_of_eq (by decide : 0 < 3) rfl)
    | ⟨2, _⟩ => exact triple_2 n 5 5 (j, dx, dy) (Nat.lt_of_lt_of_eq (by decide : 2 < 3) rfl)
    | ⟨3, _⟩ => exact triple_1 n 5 5 (j, dx, dy) (Nat.lt_of_lt_of_eq (by decide : 1 < 3) rfl)
  have er : (fwdDims wf).rhsIdx (ix4 o b h c) ((tripleEquiv n 5 5).symm (j, dx, dy)) = ix6 b j dy dx h c := by
    funext a; apply Fin.ext
    match a with
    | ⟨0, _⟩ => rfl
    | ⟨1, _⟩ => exact triple_0 n 5 5 (j, dx, dy) (Nat.lt_of_lt_of_eq (by decide : 0 < 3) rfl)
    | ⟨2, _⟩ => exact triple_2 n 5 5 (j, dx, dy) (Nat.lt_of_lt_of_eq (by decide : 2 < 3) rfl)
    | ⟨3, _⟩ => exact triple_1 n 5 5 (j, dx, dy) (Nat.lt_of_lt_of_eq (by decide : 1 < 3) rfl)
    | ⟨4, _⟩ => rfl
    | ⟨5, _⟩ => rfl
  refine congrArg₂ (· * ·) (congrArg W el) ((congrArg (shifts S X) er).trans ?_)
  exact shifts_apply S X b j dy dx h c _ _ (by show h.val + dy.val = dy.val + h.val; omega)
    (by show c.val + dx.val = dx.val + c.val; omega)

/-- The reference's adjoint at an index is the convolution by any filters V that are W transposed and turned. -/
theorem refAdj_apply (S : StackFacts B n fun d => 4 - d.val) (wf) (tr) (X : Vec Ideal (Arr B n 388 388) .f32)
    (W : Vec Ideal (Arr n M 5 5) .f32) (V : (Arr M n 5 5).Idx → EReal)
    (hV : ∀ o j dy dx, V (ix4 o j dy dx) = W (ix4 j o (Fin.rev dy) (Fin.rev dx))) (y : (Arr B M 384 384).Idx) :
    refAdj S wf tr X W y = conv X V y := by
  obtain ⟨b, o, h, c, rfl⟩ := exists_ix4 y
  refine (swap_apply tr _ b o h c).trans ?_
  simp only [Host.dotGeneral]
  rw [Ideal.dotGeneral_apply]
  refine ((Equiv.sum_comp (tripleEquiv n 5 5).symm _).symm).trans ?_
  refine Eq.trans (b := ∑ p : Fin n × Fin 5 × Fin 5, W (ix4 p.1 o p.2.2 p.2.1) *
    X (ix4 b p.1 ⟨h.val + p.2.2.rev.val, by omega⟩ ⟨c.val + p.2.1.rev.val, by omega⟩)) ?_ ?_
  · refine Finset.sum_congr rfl fun p _ => ?_
    obtain ⟨j, dx, dy⟩ := p
    have el : (adjDims wf).lhsIdx (ix4 o b h c) ((tripleEquiv n 5 5).symm (j, dx, dy)) = ix4 j o dy dx := by
      funext a; apply Fin.ext
      match a with
      | ⟨0, _⟩ => exact triple_0 n 5 5 (j, dx, dy) (Nat.lt_of_lt_of_eq (by decide : 0 < 3) rfl)
      | ⟨1, _⟩ => rfl
      | ⟨2, _⟩ => exact triple_2 n 5 5 (j, dx, dy) (Nat.lt_of_lt_of_eq (by decide : 2 < 3) rfl)
      | ⟨3, _⟩ => exact triple_1 n 5 5 (j, dx, dy) (Nat.lt_of_lt_of_eq (by decide : 1 < 3) rfl)
    have er : (adjDims wf).rhsIdx (ix4 o b h c) ((tripleEquiv n 5 5).symm (j, dx, dy)) = ix6 b j dy dx h c := by
      funext a; apply Fin.ext
      match a with
      | ⟨0, _⟩ => rfl
      | ⟨1, _⟩ => exact triple_0 n 5 5 (j, dx, dy) (Nat.lt_of_lt_of_eq (by decide : 0 < 3) rfl)
      | ⟨2, _⟩ => exact triple_2 n 5 5 (j, dx, dy) (Nat.lt_of_lt_of_eq (by decide : 2 < 3) rfl)
      | ⟨3, _⟩ => exact triple_1 n 5 5 (j, dx, dy) (Nat.lt_of_lt_of_eq (by decide : 1 < 3) rfl)
      | ⟨4, _⟩ => rfl
      | ⟨5, _⟩ => rfl
    refine congrArg₂ (· * ·) (congrArg W el) ((congrArg (shifts S X) er).trans ?_)
    exact shifts_apply S X b j dy dx h c _ _ (by show h.val + dy.rev.val = 4 - dy.val + h.val; rw [Fin.val_rev]; omega)
      (by show c.val + dx.rev.val = 4 - dx.val + c.val; rw [Fin.val_rev]; omega)
  · refine (sum_reorder fun j dx dy => W (ix4 j o dy dx) *
      X (ix4 b j ⟨h.val + dy.rev.val, by omega⟩ ⟨c.val + dx.rev.val, by omega⟩)).trans ?_
    unfold conv
    rw [← Equiv.sum_comp Fin.revPerm]
    refine Finset.sum_congr rfl fun dy _ => ?_
    rw [← Equiv.sum_comp Fin.revPerm]
    refine Finset.sum_congr rfl fun dx _ => Finset.sum_congr rfl fun j _ => ?_
    have e := hV o j dy dx
    simp only [Fin.revPerm_apply, Fin.rev_rev]
    rw [← e]
    rfl

end Product

end Cert.Conv

end
-- ==== Proof.Conv1Claim.lean ====
/- The kernel's first convolution equals the reference's.

   Both convolve the padded images with the zero-mean filters: the kernel as Conv1Value.lean reads it, the reference as a
   product with the stack of shifted images (RefConv.lean). -/
module

public import proofs.«01_k».proof.Defs
public import proofs.«01_k».proof.Proof.Conv1Value
public import proofs.«01_k».proof.Proof.RefConv
public import proofs.«01_k».proof.Proof.Gen.Forward1Ideal.Read

@[expose] public section

noncomputable section

namespace Cert.Conv1Ideal.Closed

open Cert.Conv1Ideal Cert.Conv1Ideal.Gen Idealize.ShloMosaic Idealize.ShloMosaic.TcCoe Idealize.SL.Sem Idealize.ShloMosaic.StableHlo
open Cert.Conv
open Cert.Forward1Ideal.Read

/-- The shapes of the reference's stack fit. -/
theorem stackFacts : StackFacts 8 1 fun d => d.val :=
  ⟨by decide, by decide, by decide, by decide, by decide, by decide, by decide⟩

/-- The reference's result is the convolution as RefConv.lean spells it. -/
theorem ref_eq (x : Vec Ideal Cert.Forward1Ideal.S8x1x384x384 .f32) (w : Vec Ideal Cert.Forward1Ideal.S32x1x5x5 .f32) :
    val_main_v30 (F := Ideal) x w
      = refConv stackFacts (by decide) (by decide) (val_main_v6 (F := Ideal) x) (val_main_v5 (F := Ideal) w) := rfl

variable (m : (ℓ : Loc nD τ sig) → Buf (Elt Ideal) ℓ) (c : Dev nD)

/-- The kernel's padded input is the reference's. -/
theorem input_eq : V m c main_v6 = val_main_v6 (F := Ideal) (m ((c.tc : Thread nD τ).loc main_arg0)) := by
  show StableHlo.after _ _ _ = _
  simp only [hostOps0, hostOps0_1, List.flatten_cons, List.flatten_nil, List.cons_append, List.nil_append]
  after_results_simp
  rfl

/-- The kernel's filters are the reference's zero-mean filters. -/
theorem filters_eq : V m c main_v5 = val_main_v5 (F := Ideal) (m ((c.tc : Thread nD τ).loc main_arg1)) := by
  show StableHlo.after _ _ _ = _
  simp only [hostOps0, hostOps0_1, List.flatten_cons, List.flatten_nil, List.cons_append, List.nil_append]
  after_results_simp
  rfl

/-- The two results are the same array. -/
theorem result_eq : (dats m 0 c).arrAt 2 cfg0.N
    = val_main_v30 (F := Ideal) (m ((c.tc : Thread nD τ).loc main_arg0)) (m ((c.tc : Thread nD τ).loc main_arg1)) := by
  rw [final m c, ref_eq, input_eq m c, filters_eq m c]
  funext y
  exact (refConv_apply stackFacts _ _ _ _ y).symm

/-- The value claim. -/
theorem algebraic : Cert.algebraic_Conv1Ideal_Forward1Ideal := by
  intro m g m' g' _ hag
  refine ⟨fun c => (dats m 0 c).arrAt 2 cfg0.N, Cert.Conv1Ideal.Value.run_blocks m g, ?_⟩
  refine (θ_run _ _ _).mono (fun r h c => ⟨(h c).1.trans ?_, (h c).2⟩) (Cert.Forward1Ideal.Value.run (F := Ideal) m' g')
  rw [val_main_v30_eq, (hag c).1, (hag c).2]
  exact (result_eq m c).symm

end Cert.Conv1Ideal.Closed

end
-- ==== Proof.SplineBlock.lean ====
/- The linear spline on a band of a block, as the last step of a block computes it, read at an index.

   After the convolution of a block is complete, the body takes it band by band (48 rows), and replaces the value u of
   channel o by c[o] + Σ_k m[o, k] · (min(b_k, max(a_k, u)) − a_k): 20 pieces of slope m[·, k], piece k between the knots
   a_k and b_k, added one after the other. Here: `piece`, one such step; `splineBand`, the 20 steps; `spline`, what they
   hold at an index; and the whole last step of a block, whose stores are the eight bands of the convolution and then the
   eight bands of the spline. -/
module

public import proofs.«01_k».proof.Proof.ConvBlock
public import Idealize.ShloMosaic.Lib.Pipeline.CanonAppend

@[expose] public section

noncomputable section

namespace Cert.Conv

open Idealize.ShloMosaic Idealize.SL.Sem
open Idealize.ShloMosaic.ValueIdx (ix2 ix3 ix4)

/-- One number per channel. -/
abbrev CB (O : ℕ) : Shape := ⟨2, ![O, 1]⟩
/-- Twenty numbers per channel. -/
abbrev MB (O : ℕ) : Shape := ⟨2, ![O, 20]⟩
/-- One number per channel, with the pixels' axes. -/
abbrev Col (O : ℕ) : Shape := ⟨3, ![O, 1, 1]⟩
/-- The values of a band. -/
abbrev Pix (O : ℕ) : Shape := ⟨3, ![O, 48, 384]⟩

/-- The left knots, as words. -/
def lo : ℕ → BitVec 32
  | 0 => 0xBF800000#32 | 1 => 0xBF666666#32 | 2 => 0xBF4CCCCD#32 | 3 => 0xBF333333#32 | 4 => 0xBF19999A#32
  | 5 => 0xBF000000#32 | 6 => 0xBECCCCCD#32 | 7 => 0xBE99999A#32 | 8 => 0xBE4CCCCD#32 | 9 => 0xBDCCCCCD#32
  | 10 => 0x00000000#32 | 11 => 0x3DCCCCCD#32 | 12 => 0x3E4CCCCD#32 | 13 => 0x3E99999A#32 | 14 => 0x3ECCCCCD#32
  | 15 => 0x3F000000#32 | 16 => 0x3F19999A#32 | 17 => 0x3F333333#32 | 18 => 0x3F4CCCCD#32 | _ => 0x3F666666#32

/-- The right knots: the left knot of the next piece, except at pieces 9 and 19. -/
def hi : ℕ → BitVec 32
  | 9 => 0x24000000#32
  | 19 => 0x3F800000#32
  | k => lo (k + 1)

section Ops
variable {F : FTy → Type} [FloatOps F]

theorem cInb (O : ℕ) : ∀ a : Fin 2, (![0, 0] : Fin 2 → ℕ) a + (![O, 1] : Fin 2 → ℕ) a ≤ (CB O).size a
  | ⟨0, _⟩ => by show 0 + O ≤ O; omega
  | ⟨1, _⟩ => Nat.le_refl _

theorem mInb (O k : ℕ) (hk : k < 20) : ∀ a : Fin 2, (![0, k] : Fin 2 → ℕ) a + (![O, 1] : Fin 2 → ℕ) a ≤ (MB O).size a
  | ⟨0, _⟩ => by show 0 + O ≤ O; omega
  | ⟨1, _⟩ => hk

/-- The shape facts of the spline. -/
structure SplineSizes (O : ℕ) : Prop where
  same : (CB O).ShapeCasts (CB O)
  col : (CB O).ShapeCasts (Col O)
  colSame : (Col O).ShapeCasts (Col O)
  pix : (Col O).Broadcasts (Pix O)

variable {O I : ℕ} (S : Sizes O I) (T : SplineSizes O)

/-- Piece k: its slopes times how far u has run between the knots, added to what is there. -/
def piece (m : Vec F (MB O) .f32) (u : FVec F (Pix O) .f32) (k : ℕ) (hk : k < 20) (acc : FVec F (Pix O) .f32) :
    FVec F (Pix O) .f32 :=
  addf acc (mulf (broadcastTo (Pix O) (shapeCast (Col O) (shapeCast (CB O)
      (View.ld m (Rect.unit ![0, k] ![O, 1] (mInb O k hk))) T.same) T.col) T.pix)
    (subf (minimumf (broadcast (Pix O) (Scalar.ofBits .f32 (hi k))) (maximumf (broadcast (Pix O) (Scalar.ofBits .f32 (lo k))) u))
      (broadcast (Pix O) (Scalar.ofBits .f32 (lo k)))))

/-- The start values with the first n pieces added. -/
def pieces (c : Vec F (CB O) .f32) (m : Vec F (MB O) .f32) (u : FVec F (Pix O) .f32) : (n : ℕ) → n ≤ 20 → FVec F (Pix O) .f32
  | 0, _ => broadcastTo (Pix O) (shapeCast (Col O) (shapeCast (Col O) (shapeCast (CB O)
      (View.ld c (Rect.unit ![0, 0] ![O, 1] (cInb O))) T.same) T.col) T.colSame) T.pix
  | n + 1, h => piece T m u n h (pieces c m u n (Nat.le_of_succ_le h))

/-- What the last step stores for a band in place of v: the spline of v. -/
def splineBand (c : Vec F (CB O) .f32) (m : Vec F (MB O) .f32) (v : FVec F (Band O) .f32) : FVec F (Band O) .f32 :=
  shapeCast (Band O) (pieces T c m (shapeCast (Pix O) v S.oDrop) 20 (Nat.le_refl _)) S.oAdd

/-- The eight bands of the spline, last first. -/
def piecesSpline (x : Vec F (XB I) .f32) (w : Vec F (WB O I) .f32) (xo : Vec F (OB O) .f32) (c : Vec F (CB O) .f32)
    (m : Vec F (MB O) .f32) : List (View.Piece (Elt F) (OB O) .f32) :=
  let P (h0 : ℕ) (hh : h0 + 48 ≤ 384) : View.Piece (Elt F) (OB O) .f32 :=
    ⟨Rect.unit ![0, 0, h0, 0] ![1, O, 48, 384] (oInb O h0 hh), splineBand S T c m (bandNext S x w xo h0 hh)⟩
  [P 336 (by omega), P 288 (by omega), P 240 (by omega), P 192 (by omega), P 144 (by omega), P 96 (by omega),
    P 48 (by omega), P 0 (by omega)]

end Ops

/-! ## Read at an index -/

section Read
variable {O I : ℕ} (S : Sizes O I) (T : SplineSizes O)

/-- How far u has run between the knots of piece k. -/
def run (u : EReal) (k : ℕ) : EReal := min (Ideal.ofBits .f32 (hi k)) (max (Ideal.ofBits .f32 (lo k)) u) - Ideal.ofBits .f32 (lo k)

/-- The spline with start c and slopes m, at u. -/
def spline (c : EReal) (m : Fin 20 → EReal) (u : EReal) : EReal := c + ∑ k : Fin 20, m k * run u k.val

/-- A number per channel, spread over the pixels. -/
theorem spread_apply (v : FVec Ideal (Col O) .f32) (o : Fin O) (r : Fin 48) (l : Fin 384) :
    broadcastTo (Pix O) v T.pix (ix3 o r l) = v (ix3 o 0 0) := by
  refine broadcastTo_apply v T.pix _ _ fun a => ?_
  match a with
  | ⟨0, _⟩ =>
    show o.val = if O = 1 then 0 else o.val
    split <;> omega
  | ⟨1, _⟩ => rfl
  | ⟨2, _⟩ => rfl

theorem col_apply (v : FVec Ideal (CB O) .f32) (o : Fin O) :
    shapeCast (Col O) (shapeCast (CB O) v T.same) T.col (ix3 o 0 0) = v (ix2 o 0) := by
  refine (cast_apply _ T.col _ (ix2 o 0) ?_).trans (cast_apply _ T.same _ (ix2 o 0) rfl)
  rw [Shape.rowMajor_val_three, Shape.rowMajor_val_two]
  show o.val * 1 + 0 = (o.val * 1 + 0) * 1 + 0
  omega

theorem piece_apply (m : Vec Ideal (MB O) .f32) (u : FVec Ideal (Pix O) .f32) (k : ℕ) (hk : k < 20) (acc : FVec Ideal (Pix O) .f32)
    (o : Fin O) (r : Fin 48) (l : Fin 384) :
    piece T m u k hk acc (ix3 o r l) = acc (ix3 o r l) + m (ix2 o ⟨k, hk⟩) * run (u (ix3 o r l)) k := by
  refine congrArg (acc (ix3 o r l) + ·) (congrArg (· * run (u (ix3 o r l)) k) ?_)
  refine (spread_apply T _ o r l).trans ((col_apply T _ o).trans ?_)
  show m _ = m _
  congr 1
  funext a
  apply Fin.ext
  match a with
  | ⟨0, _⟩ => show 0 + 1 * o.val = o.val; omega
  | ⟨1, _⟩ => show k + 1 * 0 = k; omega

theorem pieces_apply (c : Vec Ideal (CB O) .f32) (m : Vec Ideal (MB O) .f32) (u : FVec Ideal (Pix O) .f32) (o : Fin O) (r : Fin 48)
    (l : Fin 384) : ∀ (n : ℕ) (hn : n ≤ 20), pieces T c m u n hn (ix3 o r l)
      = c (ix2 o 0) + ∑ k : Fin n, m (ix2 o ⟨k.val, Nat.lt_of_lt_of_le k.isLt hn⟩) * run (u (ix3 o r l)) k.val
  | 0, _ => by
    rw [Fin.sum_univ_zero, add_zero]
    refine (spread_apply T _ o r l).trans ((cast_apply _ T.colSame _ (ix3 o 0 0) rfl).trans ((col_apply T _ o).trans ?_))
    show c _ = c _
    congr 1
    funext a
    apply Fin.ext
    match a with
    | ⟨0, _⟩ => show 0 + 1 * o.val = o.val; omega
    | ⟨1, _⟩ => rfl
  | n + 1, hn => by
    refine (piece_apply T m u n hn _ o r l).trans ?_
    rw [pieces_apply c m u o r l n (Nat.le_of_succ_le hn), Fin.sum_univ_castSucc, add_assoc]
    rfl

theorem splineBand_apply (c : Vec Ideal (CB O) .f32) (m : Vec Ideal (MB O) .f32) (v : FVec Ideal (Band O) .f32) (o : Fin O)
    (r : Fin 48) (l : Fin 384) :
    splineBand S T c m v (ix4 0 o r l) = spline (c (ix2 o 0)) (fun k => m (ix2 o k)) (v (ix4 0 o r l)) := by
  refine (add_cast_apply S _ _ _ _).trans ((pieces_apply T c m _ o r l 20 _).trans ?_)
  rw [drop_cast_apply S v o r l]
  rfl

/-- The bands of the spline are the bands of the convolution, so they cover what the two together cover. -/
theorem cover_spline (x : Vec Ideal (XB I) .f32) (w : Vec Ideal (WB O I) .f32) (xo : Vec Ideal (OB O) .f32) (c : Vec Ideal (CB O) .f32)
    (m : Vec Ideal (MB O) .f32) (y : (OB O).Idx)
    (hy : ∃ p ∈ piecesSpline S T x w xo c m ++ piecesNext S x w xo, y ∈ p.1.set) :
    ∃ p ∈ piecesSpline S T x w xo c m, y ∈ p.1.set := by
  obtain ⟨p, hp, hyp⟩ := hy
  rcases List.mem_append.mp hp with h | h
  · exact ⟨p, h, hyp⟩
  · have e : (piecesNext S x w xo).map (·.1) = (piecesSpline S T x w xo c m).map (·.1) := rfl
    have hm : p.1 ∈ (piecesSpline S T x w xo c m).map (·.1) := e ▸ List.mem_map_of_mem (f := (·.1)) h
    obtain ⟨q, hq, hqp⟩ := List.mem_map.mp hm
    exact ⟨q, hq, hqp.symm ▸ hyp⟩

/-- THE LAST STEP leaves the spline of: what the block held plus the convolution of the two input blocks. -/
theorem canon_last (x : Vec Ideal (XB I) .f32) (w : Vec Ideal (WB O I) .f32) (xo : Vec Ideal (OB O) .f32) (c : Vec Ideal (CB O) .f32)
    (m : Vec Ideal (MB O) .f32) (L : List (View.Piece (Elt Ideal) (OB O) .f32)) (y : (OB O).Idx)
    (hy : ∃ p ∈ piecesSpline S T x w xo c m, y ∈ p.1.set) :
    View.canon (piecesSpline S T x w xo c m ++ L) y
      = spline (c (ix2 (y 1) 0)) (fun k => m (ix2 (y 1) k)) (xo y + blockSum x w y : EReal) := by
  refine View.canon_append_of_pieces (fun y => spline (c (ix2 (y 1) 0)) (fun k => m (ix2 (y 1) k)) (xo y + blockSum x w y : EReal))
    L _ (fun p hp => ?_) y hy
  have B : ∀ (h0 : ℕ) (hh : h0 + 48 ≤ 384) (z : (Band O).Idx), splineBand S T c m (bandNext S x w xo h0 hh) z
      = (fun y : (OB O).Idx => spline (c (ix2 (y 1) 0)) (fun k => m (ix2 (y 1) k)) (xo y + blockSum x w y : EReal))
        ((Rect.unit (s := OB O) ![0, 0, h0, 0] ![1, O, 48, 384] (oInb O h0 hh)).emb z) := by
    intro h0 hh z
    rw [ix4_eta z]
    refine (splineBand_apply S T c m _ _ _ _).trans (Eq.trans (congrArg (spline _ _) ?_)
      (congrArg (fun y : (OB O).Idx => spline (c (ix2 (y 1) 0)) (fun k => m (ix2 (y 1) k)) (xo y + blockSum x w y : EReal))
        (band_emb h0 hh _ _ _).symm))
    exact (bandNext_apply S x w xo h0 hh _).trans (congrArg (fun y => xo y + blockSum x w y : (OB O).Idx → EReal) (band_emb h0 hh _ _ _))
  simp only [piecesSpline, List.mem_cons, List.not_mem_nil, or_false] at hp
  rcases hp with rfl | rfl | rfl | rfl | rfl | rfl | rfl | rfl <;> (intro z; apply B) <;> decide

end Read

end Cert.Conv

end
-- ==== Proof.Conv2Steps.lean ====
/- What one point of the kernel's second convolution leaves in its block.

   At channel group k = 0 the body stores the 5 × 5 convolution of its two blocks (ConvBlock.lean), at a later k it adds it
   to what the block held, and at the last k it then replaces the block by its spline (SplineBlock.lean). -/
module

public import proofs.«01_k».proof.Proof.Gen.Conv2Ideal.Value
public import proofs.«01_k».proof.Proof.SplineBlock
public import Idealize.ShloMosaic.Lib.Pipeline.ValueKit
public import Idealize.ShloMosaic.Lib.Pipeline.ReadBack

@[expose] public section

noncomputable section

namespace Cert.Conv2Ideal.Closed

open Cert.Conv2Ideal Cert.Conv2Ideal.Gen Idealize.ShloMosaic Idealize.ShloMosaic.TcCoe Idealize.ShloMosaic.Tactic Idealize.SL.Sem
open Idealize.ShloMosaic.Pipeline (Dat)
open Idealize.ShloMosaic.ValueIdx (ix4)
open Cert.Conv (blockSum conv spline)

set_option maxRecDepth 100000

theorem sizes : Cert.Conv.Sizes 16 8 := ⟨by decide, by decide, by decide, by decide, by decide, by decide⟩
theorem splineSizes : Cert.Conv.SplineSizes 16 := ⟨by decide, by decide, by decide, by decide⟩

variable (m : (ℓ : Loc nD τ sig) → Buf (Elt Ideal) ℓ)

section Steps
variable (c : Dev nD) (i : grid0.Coords) (a0 : Memref sig .tc .vmem S1x8x388x388 .f32) (h0 : a0.IsWhole)
  (a1 : Memref sig .tc .vmem S16x8x5x5 .f32) (h1 : a1.IsWhole) (a2 : Memref sig .tc .vmem S16x1 .f32) (h2 : a2.IsWhole)
  (a3 : Memref sig .tc .vmem S16x20 .f32) (h3 : a3.IsWhole) (a4 : Memref sig .tc .vmem S1x16x384x384 .f32) (h4 : a4.IsWhole)
  (x : Vec Ideal S1x8x388x388 .f32) (w : Vec Ideal S16x8x5x5 .f32) (s : Vec Ideal S16x1 .f32) (p : Vec Ideal S16x20 .f32)

/-- At k = 0 the body leaves the convolution of its two blocks. -/
theorem first_eq (hc0 hc1 hc2 hc3 hc4 hc5 hc6 hc7 hc8 hc9 hc10 hc11 hc12 hc13 hc14 hc15 hc16) (y : S1x16x384x384.Idx) :
    out0_A_4 c i a0 h0 a1 h1 a2 h2 a3 h3 a4 h4 hc0 hc1 hc2 hc3 hc4 hc5 hc6 hc7 hc8 hc9 hc10 hc11 hc12 hc13 hc14 hc15 hc16 x w s p y
      = blockSum (O := 16) (I := 8) x w y := by
  have e : (kernelRun0_A c i a0 h0 a1 h1 a2 h2 a3 h3 a4 h4 hc0 hc1 hc2 hc3 hc4 hc5 hc6 hc7 hc8 hc9 hc10 hc11 hc12 hc13 hc14 hc15
      hc16 x w s p).1 = Cert.Conv.piecesFirst sizes x w := by
    unfold kernelRun0_A
    dsimp only
    sl_unfold_words
    simp only [View.readAt_eq_ld, h0.read_unread, h1.read_unread]
    rfl
  have cov := cover0_A_4 c i a0 h0 a1 h1 a2 h2 a3 h3 a4 h4 hc0 hc1 hc2 hc3 hc4 hc5 hc6 hc7 hc8 hc9 hc10 hc11 hc12 hc13 hc14 hc15
    hc16 x w s p
  unfold out0_A_4
  rw [View.read_writes_eq_canon _ _ _ cov, e]
  rw [e] at cov
  exact Cert.Conv.canon_first sizes x w y (cov y)

/-- At a later k it leaves what the block held plus the convolution of its two blocks. -/
theorem next_eq (hc0 hc1 hc2 hc3 hc4 hc5 hc6 hc7 hc8 hc9 hc10 hc11 hc12 hc13 hc14 hc15 hc16) (xo : Vec Ideal S1x16x384x384 .f32)
    (y : S1x16x384x384.Idx) :
    out0_B_4 c i a0 h0 a1 h1 a2 h2 a3 h3 a4 h4 hc0 hc1 hc2 hc3 hc4 hc5 hc6 hc7 hc8 hc9 hc10 hc11 hc12 hc13 hc14 hc15 hc16 x w s p xo y
      = (xo y + blockSum (O := 16) (I := 8) x w y : EReal) := by
  have e : (kernelRun0_B c i a0 h0 a1 h1 a2 h2 a3 h3 a4 h4 hc0 hc1 hc2 hc3 hc4 hc5 hc6 hc7 hc8 hc9 hc10 hc11 hc12 hc13 hc14 hc15
      hc16 x w s p xo).1 = Cert.Conv.piecesNext sizes x w xo := by
    unfold kernelRun0_B
    dsimp only
    sl_unfold_words
    simp only [View.readAt_eq_ld, h0.read_unread, h1.read_unread, h4.read_unread]
    rfl
  have cov := cover0_B_4 c i a0 h0 a1 h1 a2 h2 a3 h3 a4 h4 hc0 hc1 hc2 hc3 hc4 hc5 hc6 hc7 hc8 hc9 hc10 hc11 hc12 hc13 hc14 hc15
    hc16 x w s p xo
  unfold out0_B_4
  rw [View.read_writes_eq_canon _ _ _ cov, e]
  rw [e] at cov
  exact Cert.Conv.canon_next sizes x w xo y (cov y)

set_option maxHeartbeats 8000000 in
/-- At the last k it leaves the spline of that. -/
theorem last_eq (hc0 hc1 hc2 hc3 hc4 hc5 hc6 hc7 hc8 hc9 hc10 hc11 hc12 hc13 hc14 hc15 hc16) (xo : Vec Ideal S1x16x384x384 .f32)
    (y : S1x16x384x384.Idx) :
    out0_C_4 c i a0 h0 a1 h1 a2 h2 a3 h3 a4 h4 hc0 hc1 hc2 hc3 hc4 hc5 hc6 hc7 hc8 hc9 hc10 hc11 hc12 hc13 hc14 hc15 hc16 x w s p xo y
      = spline (s (ValueIdx.ix2 (y 1) 0)) (fun k => p (ValueIdx.ix2 (y 1) k)) (xo y + blockSum (O := 16) (I := 8) x w y : EReal) := by
  have e : (kernelRun0_C c i a0 h0 a1 h1 a2 h2 a3 h3 a4 h4 hc0 hc1 hc2 hc3 hc4 hc5 hc6 hc7 hc8 hc9 hc10 hc11 hc12 hc13 hc14 hc15
      hc16 x w s p xo).1 = Cert.Conv.piecesSpline sizes splineSizes x w xo s p ++ Cert.Conv.piecesNext sizes x w xo := by
    unfold kernelRun0_C
    dsimp only
    sl_unfold_words
    simp (decide := true) only [↓View.readCov_skip, ↓View.readCov_cons_toLoadRect, View.readAt_eq_ld, h0.read_unread,
      h1.read_unread, h2.read_unread, h3.read_unread, h4.read_unread]
    rfl
  have cov := cover0_C_4 c i a0 h0 a1 h1 a2 h2 a3 h3 a4 h4 hc0 hc1 hc2 hc3 hc4 hc5 hc6 hc7 hc8 hc9 hc10 hc11 hc12 hc13 hc14 hc15
    hc16 x w s p xo
  unfold out0_C_4
  rw [View.read_writes_eq_canon _ _ _ cov, e]
  rw [e] at cov
  exact Cert.Conv.canon_last sizes splineSizes x w xo s p _ y (Cert.Conv.cover_spline sizes splineSizes x w xo s p y (cov y))

end Steps

end Cert.Conv2Ideal.Closed

end
-- ==== Proof.Conv2Value.lean ====
/- The kernel's second convolution with the spline, read off its run.

   The call runs over points t = (b, o, k): image b of 8, filter block o of 4 (16 filters each), channel group k of 4
   (8 channels each). Point t reads channels 8k … 8k+7 of the padded image b and the same channels of filters
   16o … 16o+15, and at k = 0 stores, later adds, the 5 × 5 convolution of the two blocks (ConvBlock.lean). At k = 3 it
   then replaces the block by its spline (SplineBlock.lean), and the block is written back. So the result array holds at
   (b, i, h, c) the spline of the convolution over all 32 channels, with the numbers of channel i. -/
module

public import proofs.«01_k».proof.Proof.Gen.Conv2Ideal.Value
public import proofs.«01_k».proof.Proof.Conv2Steps
public import Idealize.ShloMosaic.Lib.Pipeline.ValueKit

@[expose] public section

noncomputable section

namespace Cert.Conv2Ideal.Closed

open Cert.Conv2Ideal Cert.Conv2Ideal.Gen Idealize.ShloMosaic Idealize.ShloMosaic.TcCoe Idealize.ShloMosaic.Tactic Idealize.SL.Sem
open Idealize.ShloMosaic.Pipeline (Dat)
open Idealize.ShloMosaic.ValueIdx (ix4)
open Cert.Conv (blockSum conv spline)

set_option maxRecDepth 100000

variable (m : (ℓ : Loc nD τ sig) → Buf (Elt Ideal) ℓ)

/-- What point n adds to its block. -/
def term (c : Dev nD) (y : S1x16x384x384.Idx) (n : ℕ) (h : n < cfg0.N) : EReal :=
  blockSum (O := 16) (I := 8) (iblk m c 0 ⟨n, h⟩) (iblk m c 1 ⟨n, h⟩) y

/-- What the block holds after a point, before the spline: at the last channel group, what it held and what the point adds. -/
def sums (c : Dev nD) (y : S1x16x384x384.Idx) (n : ℕ) (h : n < cfg0.N) : EReal :=
  if n % 4 = 3 then (outsAt0 m c (n - 1) (by omega) y + term m c y n h : EReal) else outsAt0 m c n h y

/-- After the points 4q, …, 4q + 3 the block, before the spline, holds the sum of what they add. -/
theorem sums_eq (c : Dev nD) (y : S1x16x384x384.Idx) (q : ℕ) (h : 4 * q + 3 < cfg0.N) :
    sums m c y (4 * q + 3) h = ∑ i : Fin 4, term m c y (4 * q + i.val) (by omega) := by
  refine Cert.Conv.restart_sum (K := 4) (sums m c y) (term m c y) (fun n h hm => ?_) (fun n h hm => ?_) q 3 (by decide) h
  · have hn : ¬1 ≤ (⟨n, h⟩ : Fin cfg0.N).val % 4 := by dsimp only; omega
    have h3 : ¬(⟨n, h⟩ : Fin cfg0.N).val % 4 = 3 := by dsimp only; omega
    refine (if_neg h3).trans ?_
    exact (congrFun (outsAt0_A m c ⟨n, h⟩ hm hn hm hn hm hn hm hn hm hn hm hn hm hn hm hn h3) y).trans (first_eq ..)
  · have hp : 1 ≤ (⟨n, h⟩ : Fin cfg0.N).val % 4 := by dsimp only; omega
    have h1 : ¬(n - 1) % 4 = 3 := by omega
    have e1 : sums m c y (n - 1) (by omega) = outsAt0 m c (n - 1) (by omega) y := if_neg h1
    rw [e1]
    by_cases h3 : n % 4 = 3
    · exact if_pos h3
    · refine (if_neg h3).trans ?_
      exact (congrFun (outsAt0_B m c ⟨n, h⟩ hm hp hm hp hm hp hm hp hm hp hm hp hm hp hm hp h3) y).trans (next_eq ..)

/-- After the point 4q + 3 the block holds the spline of that sum. -/
theorem outs_eq (c : Dev nD) (y : S1x16x384x384.Idx) (q : ℕ) (h : 4 * q + 3 < cfg0.N) :
    outsAt0 m c (4 * q + 3) h y = spline ((iblk m c 2 ⟨4 * q + 3, h⟩ : Vec Ideal S16x1 .f32) (ValueIdx.ix2 (y 1) 0))
      (fun k => (iblk m c 3 ⟨4 * q + 3, h⟩ : Vec Ideal S16x20 .f32) (ValueIdx.ix2 (y 1) k))
      (∑ i : Fin 4, term m c y (4 * q + i.val) (by omega)) := by
  have h3 : (⟨4 * q + 3, h⟩ : Fin cfg0.N).val % 4 = 3 := by dsimp only; omega
  have hm : ¬(⟨4 * q + 3, h⟩ : Fin cfg0.N).val % 4 = 0 := by omega
  have hp : 1 ≤ (⟨4 * q + 3, h⟩ : Fin cfg0.N).val % 4 := by omega
  rw [← sums_eq m c y q h]
  have e1 : sums m c y (4 * q + 3) h = (outsAt0 m c (4 * q + 3 - 1) (by omega) y + term m c y (4 * q + 3) h : EReal) := if_pos h3
  rw [e1]
  exact (congrFun (outsAt0_C m c ⟨4 * q + 3, h⟩ hm hp hm hp hm hp hm hp hm hp hm hp hm hp hm hp h3) y).trans (last_eq ..)

theorem index0 : ∀ t : Fin cfg0.N, win0_0.index t = ![t.val / 16, t.val % 4, 0, 0] := (by decide +kernel : ∀ t : Fin grid0.N, _)
theorem index1 : ∀ t : Fin cfg0.N, win0_1.index t = ![t.val / 4 % 4, t.val % 4, 0, 0] := (by decide +kernel : ∀ t : Fin grid0.N, _)
theorem index2 : ∀ t : Fin cfg0.N, win0_2.index t = ![t.val / 4 % 4, 0] := (by decide +kernel : ∀ t : Fin grid0.N, _)
theorem index3 : ∀ t : Fin cfg0.N, win0_3.index t = ![t.val / 4 % 4, 0] := (by decide +kernel : ∀ t : Fin grid0.N, _)
theorem index4 : ∀ t : Fin cfg0.N, win0_4.index t = ![t.val / 16, t.val / 4 % 4, 0, 0] := (by decide +kernel : ∀ t : Fin grid0.N, _)

/-- The spline of an array of images, each channel with its own start and slopes. -/
def splined (s : Vec Ideal S64x1 .f32) (p : Vec Ideal S64x20 .f32) (u : S8x64x384x384.Idx → EReal) (y : S8x64x384x384.Idx) : EReal :=
  spline (s (ValueIdx.ix2 (y 1) 0)) (fun k => p (ValueIdx.ix2 (y 1) k)) (u y)

section Blocks
variable (c : Dev nD) (y : S1x16x384x384.Idx) (q : ℕ) (hq : 4 * q + 3 < 128)

include hq in
theorem point_lt (k : Fin 4) : 4 * q + k.val < cfg0.N := by
  have hN : cfg0.N = 128 := N_0
  rw [hN]
  omega

/-- Where an element of the block of the points 4q, …, 4q + 3 lies in the result. -/
def place : S8x64x384x384.Idx :=
  ValueIdx.ix4 ⟨q / 4, by omega⟩ ⟨16 * (q % 4) + (y 1).val, by have h : (y 1).val < 16 := (y 1).isLt; omega⟩ (y 2) (y 3)

/-- The four points' terms add up to the convolution over all channels. -/
theorem terms_eq : (∑ k : Fin 4, term m c y (4 * q + k.val) (point_lt q hq k))
    = conv (B := 8) (M := 64) (n := 32) (V m c main_v35) (V m c main_v5) (place y q hq) := by
  have hy1 : (y 1).val < 16 := (y 1).isLt
  unfold term place
  refine Cert.Conv.sum_blocks (K := 4) (I := 8) (O := 16) (B := 8) (M := 64) (V m c main_v35) (V m c main_v5)
    (fun k => iblk m c 0 ⟨4 * q + k.val, point_lt q hq k⟩) (fun k => iblk m c 1 ⟨4 * q + k.val, point_lt q hq k⟩) y
    ⟨q / 4, by omega⟩ ⟨16 * (q % 4) + (y 1).val, by omega⟩ (fun k j r l => ?_) (fun k j dy dx => ?_)
  · blk_ext [iblk, index0, finProdFinEquiv_apply_val]
    · show (4 * q + k.val) % 4 * 8 + j.val = j.val + 8 * k.val
      omega
  · blk_ext [iblk, index1, finProdFinEquiv_apply_val]
    · show (4 * q + k.val) / 4 % 4 * 16 + (y 1).val = 16 * (q % 4) + (y 1).val
      omega
    · show (4 * q + k.val) % 4 * 8 + j.val = j.val + 8 * k.val
      omega

/-- The block's start values are the result's channels'. -/
theorem start_eq (h : 4 * q + 3 < cfg0.N) : (iblk m c 2 ⟨4 * q + 3, h⟩ : Vec Ideal S16x1 .f32) (ValueIdx.ix2 (y 1) 0)
    = (V m c main_v34 : Vec Ideal S64x1 .f32) (ValueIdx.ix2 (place y q hq 1) 0) := by
  have hy1 : (y 1).val < 16 := (y 1).isLt
  blk_ext [iblk, index2, place]
  show (4 * q + 3) / 4 % 4 * 16 + (y 1).val = 16 * (q % 4) + (y 1).val
  omega

/-- The block's slopes are the result's channels'. -/
theorem slopes_eq (h : 4 * q + 3 < cfg0.N) (k : Fin 20) : (iblk m c 3 ⟨4 * q + 3, h⟩ : Vec Ideal S16x20 .f32) (ValueIdx.ix2 (y 1) k)
    = (V m c main_v33 : Vec Ideal S64x20 .f32) (ValueIdx.ix2 (place y q hq 1) k) := by
  have hy1 : (y 1).val < 16 := (y 1).isLt
  blk_ext [iblk, index3, place]
  show (4 * q + 3) / 4 % 4 * 16 + (y 1).val = 16 * (q % 4) + (y 1).val
  omega

end Blocks

/-- THE RESULT ARRAY is the spline of the convolution of the padded images by the filters the call is given. -/
theorem final (c : Dev nD) :
    (dats m 0 c).arrAt 4 cfg0.N = splined (V m c main_v34) (V m c main_v33)
      (conv (B := 8) (M := 64) (n := 32) (V m c main_v35) (V m c main_v5)) := by
  refine (dats m 0 c).arrAt_eq_of_covers 4 _ (by decide +kernel) fun t hf y => ?_
  have hN : cfg0.N = 128 := N_0
  have h7 := (flush0_4 t).mp hf
  obtain ⟨n, hn⟩ := t
  obtain ⟨q, rfl⟩ : ∃ q, n = 4 * q + 3 := ⟨n / 4, by dsimp only at h7; omega⟩
  have hq : 4 * q + 3 < 128 := lt_of_lt_of_eq hn hN
  blk_simp
  rw [after0_4]
  refine (outs_eq m c y q hn).trans ?_
  rw [terms_eq m c y q hq, start_eq m c y q hq hn, funext (slopes_eq m c y q hq hn)]
  refine congrArg (splined (V m c main_v34) (V m c main_v33) (conv (B := 8) (M := 64) (n := 32) (V m c main_v35) (V m c main_v5)))
    (a₁ := place y q hq) ?_
  blk_ext [index4, place]

end Cert.Conv2Ideal.Closed

end
-- ==== Proof.Forward2Read.lean ====
/- The reference's second convolution with the spline, read at an index.

   The reference computes from the coefficients the projected ones (`projected`), and from those the start values and the 20
   slopes per channel; it convolves the padded images with the zero-mean filters (RefConv.lean); and to each value u of
   channel i it gives start[i] + Σ_k slopes[i, k] · (clip(u, left_k, right_k) − left_k), with the pieces on an axis of their
   own. Here: these parts as the host program computes them, and the spline at an index. -/
module

public import proofs.«01_k».proof.Proof.Gen.Forward2Ideal.Run
public import proofs.«01_k».proof.Proof.RefConv
public import proofs.«01_k».proof.Proof.SplineBlock
public import Idealize.ShloMosaic.Lib.IdealHost

@[expose] public section

noncomputable section

namespace Cert.Forward2Ideal.Closed

open Cert.Forward2Ideal Cert.Forward2Ideal.Gen Idealize.ShloMosaic Idealize.ShloMosaic.TcCoe Idealize.SL.Sem Idealize.ShloMosaic.StableHlo
open Cert.Conv (StackFacts refConv conv spline run lo hi kept)

/-- The shapes of the reference's stack fit. -/
theorem stackFacts : StackFacts 8 32 fun d => d.val :=
  ⟨by decide, by decide, by decide, by decide, by decide, by decide, by decide⟩

/-! ## The parts -/

/-- The images with two rows and columns of zeros on each side. -/
def padded (x : FVec Ideal S8x32x384x384 .f32) : FVec Ideal S8x32x388x388 .f32 :=
  pad S8x32x388x388 ![0, 0, 2, 2] ![0, 0, 2, 2] ![0, 0, 0, 0] x (sitofp (F := Ideal) .f32 (constantI S_ 32 0#32))
    pads_S8x32x384x384_S8x32x388x388_000_000_220_220 h_S_

/-- The filters less their mean. -/
def centred (w : FVec Ideal S64x32x5x5 .f32) : FVec Ideal S64x32x5x5 .f32 :=
  subf w (broadcastInDim S64x32x5x5 ![0, 1, 2, 3] bcast_S64x1x1x1_S64x32x5x5_0_1_2_3
    (Host.divf (broadcastInDim S64x1x1x1 ![0] bcast_S64_S64x1x1x1_0
        (Host.reduceAdd w (constant (F := Ideal) S_ .f32 0x00000000#32) reducesTo_S64x32x5x5_S64_d1_2_3 h_S_))
      (broadcastInDim S64x1x1x1 ![] bcast_S_S64x1x1x1 (constant (F := Ideal) S_ .f32 0x44480000#32))))

/-- The differences of neighbouring coefficients, over the step. -/
def slopes (a : FVec Ideal S64x21 .f32) : FVec Ideal S64x20 .f32 :=
  Host.divf (subf (extractStridedSlice S64x20 ![0, 1] a slices_S64x21_S64x20_0_1)
    (extractStridedSlice S64x20 ![0, 0] a slices_S64x21_S64x20_0_0))
    (broadcastInDim S64x20 ![] bcast_S_S64x20 (constant (F := Ideal) S_ .f32 0x3DCCCCCD#32))

/-- One column of slopes set to zero. -/
def flat (k : BitVec 32) (s : FVec Ideal S64x20 .f32) : FVec Ideal S64x20 .f32 :=
  Host.scatter scatter_S64x20_S1_S64_0_1_1_0 (fun _ b => b) s (broadcastInDim S1 ![] bcast_S_S1 (constantI S_ 32 k))
    (broadcastInDim S64 ![] bcast_S_S64 (constant (F := Ideal) S_ .f32 0x00000000#32))

/-- The coefficients rebuilt, from zero, with the slopes of the two end pieces set to zero. -/
def rebuilt (a : FVec Ideal S64x21 .f32) : FVec Ideal S64x21 .f32 :=
  concatenate S64x21 1 [⟨S64x1, broadcastInDim S64x1 ![] bcast_S_S64x1 (constant (F := Ideal) S_ .f32 0x00000000#32)⟩,
    ⟨S64x20, mulf (Host.reduceWindowAdd ![1, 20] ![1, 1] ![0, 19] ![0, 0] (flat 19#32 (flat 0#32 (slopes a)))
        (broadcastInDim S_ ![] bcast_S_S_ (constant (F := Ideal) S_ .f32 0x00000000#32)) reduceWindows_S64x20_S64x20_w1s1p0_0_w20s1p19_0 h_S_)
      (broadcastInDim S64x20 ![] bcast_S_S64x20 (constant (F := Ideal) S_ .f32 0x3DCCCCCD#32))⟩] concatenates_S64x1_S64x20_S64x21_d1

/-- … and moved to the mean the coefficients had. -/
def projected (a : FVec Ideal S64x21 .f32) : FVec Ideal S64x21 .f32 :=
  addf (rebuilt a) (broadcastInDim S64x21 ![0, 1] bcast_S64x1_S64x21_0_1
    (Host.divf (broadcastInDim S64x1 ![0] bcast_S64_S64x1_0
        (Host.reduceAdd (subf a (rebuilt a)) (constant (F := Ideal) S_ .f32 0x00000000#32) reducesTo_S64x21_S64_d1 h_S_))
      (broadcastInDim S64x1 ![] bcast_S_S64x1 (constant (F := Ideal) S_ .f32 0x41A80000#32))))

/-- The spline's start values. -/
def start (a : FVec Ideal S64x21 .f32) : FVec Ideal S64x1 .f32 := extractStridedSlice S64x1 ![0, 0] a slices_S64x21_S64x1_0_0

/-- A list of knots, spread over the channels and pixels. -/
def knots (k : FVec Ideal S20 .f32) : FVec Ideal S8x64x384x384x20 .f32 :=
  broadcastInDim S8x64x384x384x20 ![0, 1, 2, 3, 4] bcast_S1x1x1x1x20_S8x64x384x384x20_0_1_2_3_4
    (broadcastInDim S1x1x1x1x20 ![4] bcast_S20_S1x1x1x1x20_4 k)

def left : FVec Ideal S20 .f32 := fun i => FloatOps.ofBits (F := Ideal) .f32 (lit0 (S20.rowMajor i))
def right : FVec Ideal S20 .f32 := fun i => FloatOps.ofBits (F := Ideal) .f32 (lit1 (S20.rowMajor i))

/-- The values, spread over the pieces. -/
def values (u : FVec Ideal S8x64x384x384 .f32) : FVec Ideal S8x64x384x384x20 .f32 :=
  broadcastInDim S8x64x384x384x20 ![0, 1, 2, 3, 4] bcast_S8x64x384x384x1_S8x64x384x384x20_0_1_2_3_4
    (broadcastInDim S8x64x384x384x1 ![0, 1, 2, 3] bcast_S8x64x384x384_S8x64x384x384x1_0_1_2_3 u)

/-- The slopes, spread over the images and pixels. -/
def spread (p : FVec Ideal S64x20 .f32) : FVec Ideal S8x64x384x384x20 .f32 :=
  broadcastInDim S8x64x384x384x20 ![0, 1, 2, 3, 4] bcast_S1x64x1x1x20_S8x64x384x384x20_0_1_2_3_4
    (broadcastInDim S1x64x1x1x20 ![1, 2, 3, 4] bcast_S64x1x1x20_S1x64x1x1x20_1_2_3_4
      (broadcastInDim S64x1x1x20 ![0, 3] bcast_S64x20_S64x1x1x20_0_3 p))

/-- The start values, spread over the images and pixels. -/
def spreadStart (s : FVec Ideal S64x1 .f32) : FVec Ideal S8x64x384x384 .f32 :=
  broadcastInDim S8x64x384x384 ![0, 1, 2, 3] bcast_S1x64x1x1_S8x64x384x384_0_1_2_3
    (broadcastInDim S1x64x1x1 ![1, 2, 3] bcast_S64x1x1_S1x64x1x1_1_2_3
      (broadcastInDim S64x1x1 ![0, 1] bcast_S64x1_S64x1x1_0_1 s))

/-- The spline of the values u. -/
def refSpline (s : FVec Ideal S64x1 .f32) (p : FVec Ideal S64x20 .f32) (u : FVec Ideal S8x64x384x384 .f32) : FVec Ideal S8x64x384x384 .f32 :=
  addf (spreadStart s) (Host.reduceAdd (mulf (spread p) (subf (minimumf (knots right) (maximumf (knots left) (values u))) (knots left)))
    (constant (F := Ideal) S_ .f32 0x00000000#32) reducesTo_S8x64x384x384x20_S8x64x384x384_d4 h_S_)

/-- The convolution of the padded images by the zero-mean filters. -/
def convolved (x : FVec Ideal S8x32x384x384 .f32) (w : FVec Ideal S64x32x5x5 .f32) : FVec Ideal S8x64x384x384 .f32 :=
  refConv (F := Ideal) (B := 8) (M := 64) (n := 32) stackFacts (by decide) (by decide) (padded x) (centred w)

/-- The reference's result is made of these parts. -/
theorem result_parts (m : (ℓ : Loc nD τ sig) → Buf (Elt Ideal) ℓ) (c : Dev nD) :
    Value.res_out0 m c = refSpline (start (projected (m ((c.tc : Thread nD τ).loc main_arg2))))
      (slopes (projected (m ((c.tc : Thread nD τ).loc main_arg2))))
      (convolved (m ((c.tc : Thread nD τ).loc main_arg0)) (m ((c.tc : Thread nD τ).loc main_arg1))) := rfl

/-! ## At an index -/

/-- An index of the array that has the pieces on its last axis. -/
abbrev at5 (b : Fin 8) (i : Fin 64) (h l : Fin 384) (k : Fin 20) : S8x64x384x384x20.Idx := ValueIdx.ix5 b i h l k

/-- An index of a list. -/
def at1 (k : Fin 20) : S20.Idx := ValueIdx.ix1 k

section Index
variable (b : Fin 8) (i : Fin 64) (h l : Fin 384) (k : Fin 20)

theorem knots_apply (v : FVec Ideal S20 .f32) : knots v (at5 b i h l k) = v (at1 k) := by
  refine (broadcastInDim_apply _ _ _ _ (ValueIdx.ix5 0 0 0 0 k : S1x1x1x1x20.Idx) fun a => ?_).trans
    (broadcastInDim_apply _ _ _ _ (at1 k) fun a => ?_)
  · match a with
    | ⟨0, _⟩ => rfl
    | ⟨1, _⟩ => rfl
    | ⟨2, _⟩ => rfl
    | ⟨3, _⟩ => rfl
    | ⟨4, _⟩ => exact kept k
  · match a with
    | ⟨0, _⟩ => exact kept k

theorem values_apply (u : FVec Ideal S8x64x384x384 .f32) : values u (at5 b i h l k) = u (ValueIdx.ix4 b i h l) := by
  refine (broadcastInDim_apply _ _ _ _ (ValueIdx.ix5 b i h l 0 : S8x64x384x384x1.Idx) fun a => ?_).trans
    (broadcastInDim_apply _ _ _ _ (ValueIdx.ix4 b i h l) fun a => ?_)
  · match a with
    | ⟨0, _⟩ => exact kept b
    | ⟨1, _⟩ => exact kept i
    | ⟨2, _⟩ => exact kept h
    | ⟨3, _⟩ => exact kept l
    | ⟨4, _⟩ => rfl
  · match a with
    | ⟨0, _⟩ => exact kept b
    | ⟨1, _⟩ => exact kept i
    | ⟨2, _⟩ => exact kept h
    | ⟨3, _⟩ => exact kept l

theorem spread_apply (p : FVec Ideal S64x20 .f32) : spread p (at5 b i h l k) = p (ValueIdx.ix2 i k) := by
  refine (broadcastInDim_apply _ _ _ _ (ValueIdx.ix5 0 i 0 0 k : S1x64x1x1x20.Idx) fun a => ?_).trans
    ((broadcastInDim_apply _ _ _ _ (ValueIdx.ix4 i 0 0 k : S64x1x1x20.Idx) fun a => ?_).trans
      (broadcastInDim_apply _ _ _ _ (ValueIdx.ix2 i k) fun a => ?_))
  · match a with
    | ⟨0, _⟩ => rfl
    | ⟨1, _⟩ => exact kept i
    | ⟨2, _⟩ => rfl
    | ⟨3, _⟩ => rfl
    | ⟨4, _⟩ => exact kept k
  · match a with
    | ⟨0, _⟩ => exact kept i
    | ⟨1, _⟩ => rfl
    | ⟨2, _⟩ => rfl
    | ⟨3, _⟩ => exact kept k
  · match a with
    | ⟨0, _⟩ => exact kept i
    | ⟨1, _⟩ => exact kept k

theorem spreadStart_apply (s : FVec Ideal S64x1 .f32) : spreadStart s (ValueIdx.ix4 b i h l) = s (ValueIdx.ix2 i 0) := by
  refine (broadcastInDim_apply _ _ _ _ (ValueIdx.ix4 0 i 0 0 : S1x64x1x1.Idx) fun a => ?_).trans
    ((broadcastInDim_apply _ _ _ _ (ValueIdx.ix3 i 0 0 : S64x1x1.Idx) fun a => ?_).trans
      (broadcastInDim_apply _ _ _ _ (ValueIdx.ix2 i 0) fun a => ?_))
  · match a with
    | ⟨0, _⟩ => rfl
    | ⟨1, _⟩ => exact kept i
    | ⟨2, _⟩ => rfl
    | ⟨3, _⟩ => rfl
  · match a with
    | ⟨0, _⟩ => exact kept i
    | ⟨1, _⟩ => rfl
    | ⟨2, _⟩ => rfl
  · match a with
    | ⟨0, _⟩ => exact kept i
    | ⟨1, _⟩ => rfl

theorem lit0_eq : ∀ k : Fin 20, lit0 k = lo k.val := by decide
theorem lit1_eq : ∀ k : Fin 20, lit1 k = hi k.val := by decide

theorem at1_pos : S20.rowMajor (at1 k) = k := Fin.ext (Shape.rowMajor_val_one _)

theorem left_apply : left (at1 k) = Ideal.ofBits .f32 (lo k.val) := by
  show Ideal.ofBits .f32 (lit0 (S20.rowMajor (at1 k))) = _
  rw [at1_pos, lit0_eq]

theorem right_apply : right (at1 k) = Ideal.ofBits .f32 (hi k.val) := by
  show Ideal.ofBits .f32 (lit1 (S20.rowMajor (at1 k))) = _
  rw [at1_pos, lit1_eq]

/-- One piece's part of the spline at an index. -/
theorem piece_apply (p : FVec Ideal S64x20 .f32) (u : FVec Ideal S8x64x384x384 .f32) :
    spread p (at5 b i h l k) * (min (knots right (at5 b i h l k)) (max (knots left (at5 b i h l k)) (values u (at5 b i h l k)))
      - knots left (at5 b i h l k)) = p (ValueIdx.ix2 i k) * run (u (ValueIdx.ix4 b i h l)) k.val := by
  rw [spread_apply, knots_apply, knots_apply, values_apply, left_apply, right_apply]
  rfl

/-- The reference's spline at an index. -/
theorem refSpline_apply (s : FVec Ideal S64x1 .f32) (p : FVec Ideal S64x20 .f32) (u : FVec Ideal S8x64x384x384 .f32) :
    refSpline s p u (ValueIdx.ix4 b i h l)
      = spline (s (ValueIdx.ix2 i 0)) (fun k => p (ValueIdx.ix2 i k)) (u (ValueIdx.ix4 b i h l)) := by
  refine congrArg₂ (· + ·) (spreadStart_apply b i h l s) ?_
  have e : S8x64x384x384x20.Reduces [4] S8x64x384x384 := by decide
  rw [ValueIdx.hostReduceAdd_apply, Ideal.hostReduceAdd_single _ e]
  have z : (constant (F := Ideal) S_ .f32 0x00000000#32 : FVec Ideal S_ .f32) (Shape.Idx.first h_S_) = (0 : EReal) := Ideal.ofBits_zero_f32
  rw [z, zero_add]
  refine Finset.sum_congr rfl fun k _ => ?_
  have hk : e.lift (ValueIdx.ix4 b i h l) k = at5 b i h l k := by
    funext a
    apply Fin.ext
    match a with
    | ⟨0, _⟩ => rfl
    | ⟨1, _⟩ => rfl
    | ⟨2, _⟩ => rfl
    | ⟨3, _⟩ => rfl
    | ⟨4, _⟩ => rfl
  rw [hk]
  exact piece_apply b i h l k p u

end Index

/-- The reference's convolution at an index. -/
theorem convolved_apply (x : FVec Ideal S8x32x384x384 .f32) (w : FVec Ideal S64x32x5x5 .f32) (y : S8x64x384x384.Idx) :
    convolved x w y = conv (B := 8) (M := 64) (n := 32) (padded x) (centred w) y := Cert.Conv.refConv_apply stackFacts _ _ _ _ y

end Cert.Forward2Ideal.Closed

end
-- ==== Proof.Conv2Claim.lean ====
/- The kernel's second convolution with the spline equals the reference's.

   Both convolve the padded images with the zero-mean filters and take the spline of each value, from the same start values
   and slopes: the kernel band by band and piece by piece (Conv2Value.lean), the reference as a product with the stack of
   shifted images and a sum over an axis of pieces (Forward2Read.lean). -/
module

public import proofs.«01_k».proof.Defs
public import proofs.«01_k».proof.Proof.Conv2Value
public import proofs.«01_k».proof.Proof.Forward2Read

@[expose] public section

noncomputable section

namespace Cert.Conv2Ideal.Closed

open Cert.Conv2Ideal Cert.Conv2Ideal.Gen Idealize.ShloMosaic Idealize.ShloMosaic.TcCoe Idealize.SL.Sem Idealize.ShloMosaic.StableHlo
open Cert.Conv
open Cert.Forward2Ideal.Closed (stackFacts padded centred slopes start projected convolved refSpline refSpline_apply convolved_apply result_parts)

/-- The kernel's spline at an index. -/
theorem splined_apply (s : Vec Ideal S64x1 .f32) (p : Vec Ideal S64x20 .f32) (u : S8x64x384x384.Idx → EReal) (b : Fin 8) (i : Fin 64)
    (h l : Fin 384) : splined s p u (ValueIdx.ix4 b i h l)
      = spline (s (ValueIdx.ix2 i 0)) (fun k => p (ValueIdx.ix2 i k)) (u (ValueIdx.ix4 b i h l)) := rfl

/-- The kernel's spline of the convolution is the reference's. -/
theorem same_spline (s : FVec Ideal Cert.Forward2Ideal.S64x1 .f32) (p : FVec Ideal Cert.Forward2Ideal.S64x20 .f32)
    (x : FVec Ideal Cert.Forward2Ideal.S8x32x384x384 .f32) (w : FVec Ideal Cert.Forward2Ideal.S64x32x5x5 .f32) :
    splined s p (conv (B := 8) (M := 64) (n := 32) (padded x) (centred w)) = refSpline s p (convolved x w) := by
  funext y
  obtain ⟨b, i, h, l, rfl⟩ := exists_ix4 y
  refine (splined_apply s p _ b i h l).trans (Eq.trans ?_ (refSpline_apply b i h l s p _).symm)
  rw [convolved_apply]

variable (m : (ℓ : Loc nD τ sig) → Buf (Elt Ideal) ℓ) (c : Dev nD)

/-- The kernel's padded input is the reference's. -/
theorem input_eq : V m c main_v35 = padded (m ((c.tc : Thread nD τ).loc main_arg0)) := by
  show StableHlo.after _ _ _ = _
  simp only [hostOps0, hostOps0_1, hostOps0_2, hostOps0_3, List.flatten_cons, List.flatten_nil, List.cons_append, List.nil_append]
  after_results_simp
  rfl

/-- The kernel's filters are the reference's zero-mean filters. -/
theorem filters_eq : V m c main_v5 = centred (m ((c.tc : Thread nD τ).loc main_arg1)) := by
  show StableHlo.after _ _ _ = _
  simp only [hostOps0, hostOps0_1, hostOps0_2, hostOps0_3, List.flatten_cons, List.flatten_nil, List.cons_append, List.nil_append]
  after_results_simp
  rfl

/-- The kernel's start values are the reference's. -/
theorem start_in : V m c main_v34 = start (projected (m ((c.tc : Thread nD τ).loc main_arg2))) := by
  show StableHlo.after _ _ _ = _
  simp only [hostOps0, hostOps0_1, hostOps0_2, hostOps0_3, List.flatten_cons, List.flatten_nil, List.cons_append, List.nil_append]
  after_results_simp
  rfl

/-- The kernel's slopes are the reference's. -/
theorem slopes_in : V m c main_v33 = slopes (projected (m ((c.tc : Thread nD τ).loc main_arg2))) := by
  show StableHlo.after _ _ _ = _
  simp only [hostOps0, hostOps0_1, hostOps0_2, hostOps0_3, List.flatten_cons, List.flatten_nil, List.cons_append, List.nil_append]
  after_results_simp
  rfl

/-- The two results are the same array. -/
theorem result_eq : (dats m 0 c).arrAt 4 cfg0.N
    = refSpline (start (projected (m ((c.tc : Thread nD τ).loc main_arg2)))) (slopes (projected (m ((c.tc : Thread nD τ).loc main_arg2))))
        (convolved (m ((c.tc : Thread nD τ).loc main_arg0)) (m ((c.tc : Thread nD τ).loc main_arg1))) := by
  rw [final m c, input_eq m c, filters_eq m c, start_in m c, slopes_in m c]
  exact same_spline _ _ _ _

/-- The value claim. -/
theorem algebraic : Cert.algebraic_Conv2Ideal_Forward2Ideal := by
  intro m g m' g' _ hag
  refine ⟨fun c => (dats m 0 c).arrAt 4 cfg0.N, Cert.Conv2Ideal.Value.run_blocks m g, ?_⟩
  refine (θ_run _ _ _).mono (fun r h c => ⟨(h c).1.trans ?_, (h c).2⟩) (Cert.Forward2Ideal.Value.run (F := Ideal) m' g')
  refine (result_parts m' c).trans ?_
  rw [(hag c).1, (hag c).2.1, (hag c).2.2]
  exact (result_eq m c).symm

end Cert.Conv2Ideal.Closed

end
-- ==== Proof.Conv3Value.lean ====
/- The third convolution of the kernel, read off its run.

   The call runs over points t = (b, o, k): image b of 8, filter block o of 2 (16 filters each), channel group k of 8
   (8 channels each). Point t reads channels 8k … 8k+7 of the padded image b and the same channels of filters
   16o … 16o+15, and at k = 0 stores, later adds, the 5 × 5 convolution of the two blocks (ConvBlock.lean). The block is
   written back at k = 7, so the result array holds at (b, i, h, c) the convolution over all 64 channels. -/
module

public import proofs.«01_k».proof.Proof.Gen.Conv3Ideal.Value
public import proofs.«01_k».proof.Proof.ConvBlock
public import Idealize.ShloMosaic.Lib.Pipeline.ValueKit

@[expose] public section

noncomputable section

namespace Cert.Conv3Ideal.Closed

open Cert.Conv3Ideal Cert.Conv3Ideal.Gen Idealize.ShloMosaic Idealize.ShloMosaic.TcCoe Idealize.ShloMosaic.Tactic Idealize.SL.Sem
open Idealize.ShloMosaic.Pipeline (Dat)
open Idealize.ShloMosaic.ValueIdx (ix4)
open Cert.Conv (blockSum conv)

set_option maxRecDepth 100000

theorem sizes : Cert.Conv.Sizes 16 8 := ⟨by decide, by decide, by decide, by decide, by decide, by decide⟩

variable (m : (ℓ : Loc nD τ sig) → Buf (Elt Ideal) ℓ)

section Steps
variable (c : Dev nD) (i : grid0.Coords) (a0 : Memref sig .tc .vmem S1x8x388x388 .f32) (h0 : a0.IsWhole)
  (a1 : Memref sig .tc .vmem S16x8x5x5 .f32) (h1 : a1.IsWhole) (a2 : Memref sig .tc .vmem S1x16x384x384 .f32) (h2 : a2.IsWhole)
  (x : Vec Ideal S1x8x388x388 .f32) (w : Vec Ideal S16x8x5x5 .f32)

/-- At k = 0 the body leaves the convolution of its two blocks. -/
theorem first_eq (hc0 hc1 hc2 hc3 hc4 hc5 hc6 hc7 hc8 hc9 hc10 hc11 hc12 hc13 hc14 hc15) (y : S1x16x384x384.Idx) :
    out0_A_2 c i a0 h0 a1 h1 a2 h2 hc0 hc1 hc2 hc3 hc4 hc5 hc6 hc7 hc8 hc9 hc10 hc11 hc12 hc13 hc14 hc15 x w y
      = blockSum (O := 16) (I := 8) x w y := by
  have e : (kernelRun0_A c i a0 h0 a1 h1 a2 h2 hc0 hc1 hc2 hc3 hc4 hc5 hc6 hc7 hc8 hc9 hc10 hc11 hc12 hc13 hc14 hc15 x w).1
      = Cert.Conv.piecesFirst sizes x w := by
    unfold kernelRun0_A
    dsimp only
    sl_unfold_words
    simp only [View.readAt_eq_ld, h0.read_unread, h1.read_unread]
    rfl
  have cov := cover0_A_2 c i a0 h0 a1 h1 a2 h2 hc0 hc1 hc2 hc3 hc4 hc5 hc6 hc7 hc8 hc9 hc10 hc11 hc12 hc13 hc14 hc15 x w
  unfold out0_A_2
  rw [View.read_writes_eq_canon _ _ _ cov, e]
  rw [e] at cov
  exact Cert.Conv.canon_first sizes x w y (cov y)

/-- At a later k it leaves what the block held plus the convolution of its two blocks. -/
theorem next_eq (hc0 hc1 hc2 hc3 hc4 hc5 hc6 hc7 hc8 hc9 hc10 hc11 hc12 hc13 hc14 hc15) (xo : Vec Ideal S1x16x384x384 .f32)
    (y : S1x16x384x384.Idx) :
    out0_B_2 c i a0 h0 a1 h1 a2 h2 hc0 hc1 hc2 hc3 hc4 hc5 hc6 hc7 hc8 hc9 hc10 hc11 hc12 hc13 hc14 hc15 x w xo y
      = (xo y + blockSum (O := 16) (I := 8) x w y : EReal) := by
  have e : (kernelRun0_B c i a0 h0 a1 h1 a2 h2 hc0 hc1 hc2 hc3 hc4 hc5 hc6 hc7 hc8 hc9 hc10 hc11 hc12 hc13 hc14 hc15 x w xo).1
      = Cert.Conv.piecesNext sizes x w xo := by
    unfold kernelRun0_B
    dsimp only
    sl_unfold_words
    simp only [View.readAt_eq_ld, h0.read_unread, h1.read_unread, h2.read_unread]
    rfl
  have cov := cover0_B_2 c i a0 h0 a1 h1 a2 h2 hc0 hc1 hc2 hc3 hc4 hc5 hc6 hc7 hc8 hc9 hc10 hc11 hc12 hc13 hc14 hc15 x w xo
  unfold out0_B_2
  rw [View.read_writes_eq_canon _ _ _ cov, e]
  rw [e] at cov
  exact Cert.Conv.canon_next sizes x w xo y (cov y)

end Steps

/-- What point n adds to its block. -/
def term (c : Dev nD) (y : S1x16x384x384.Idx) (n : ℕ) (h : n < cfg0.N) : EReal :=
  blockSum (O := 16) (I := 8) (iblk m c 0 ⟨n, h⟩) (iblk m c 1 ⟨n, h⟩) y

/-- After the points 8q, …, 8q + 7 the block holds the sum of what they add. -/
theorem outs_eq (c : Dev nD) (y : S1x16x384x384.Idx) (q : ℕ) (h : 8 * q + 7 < cfg0.N) :
    outsAt0 m c (8 * q + 7) h y = ∑ i : Fin 8, term m c y (8 * q + i.val) (by omega) := by
  refine Cert.Conv.restart_sum (K := 8) (fun n h => outsAt0 m c n h y) (term m c y) (fun n h hm => ?_) (fun n h hm => ?_) q 7 (by decide) h
  · have hn : ¬1 ≤ (⟨n, h⟩ : Fin cfg0.N).val % 8 := by dsimp only; omega
    exact (congrFun (outsAt0_A m c ⟨n, h⟩ hm hn hm hn hm hn hm hn hm hn hm hn hm hn hm hn) y).trans (first_eq ..)
  · have hp : 1 ≤ (⟨n, h⟩ : Fin cfg0.N).val % 8 := by dsimp only; omega
    exact (congrFun (outsAt0_B m c ⟨n, h⟩ hm hp hm hp hm hp hm hp hm hp hm hp hm hp hm hp) y).trans (next_eq ..)

theorem index0 : ∀ t : Fin cfg0.N, win0_0.index t = ![t.val / 16, t.val % 8, 0, 0] := (by decide +kernel : ∀ t : Fin grid0.N, _)
theorem index1 : ∀ t : Fin cfg0.N, win0_1.index t = ![t.val / 8 % 2, t.val % 8, 0, 0] := (by decide +kernel : ∀ t : Fin grid0.N, _)
theorem index2 : ∀ t : Fin cfg0.N, win0_2.index t = ![t.val / 16, t.val / 8 % 2, 0, 0] := (by decide +kernel : ∀ t : Fin grid0.N, _)

/-- THE RESULT ARRAY is the convolution of the padded images by the filters the call is given. -/
theorem final (c : Dev nD) :
    (dats m 0 c).arrAt 2 cfg0.N = conv (B := 8) (M := 32) (n := 64) (V m c main_v8) (V m c main_v7) := by
  refine (dats m 0 c).arrAt_eq_of_covers 2 _ (by decide +kernel) fun t hf y => ?_
  have hN : cfg0.N = 128 := N_0
  have h7 := (flush0_2 t).mp hf
  obtain ⟨n, hn⟩ := t
  obtain ⟨q, rfl⟩ : ∃ q, n = 8 * q + 7 := ⟨n / 8, by dsimp only at h7; omega⟩
  blk_simp
  rw [after0_2]
  refine (outs_eq m c y q hn).trans ?_
  have hy1 : (y 1).val < 16 := (y 1).isLt
  have hq : 8 * q + 7 < 128 := lt_of_lt_of_eq hn hN
  have hk : ∀ k : Fin 8, 8 * q + k.val < cfg0.N := fun k => by rw [hN]; omega
  refine Eq.trans (Cert.Conv.sum_blocks (K := 8) (I := 8) (O := 16) (B := 8) (M := 32) (V m c main_v8) (V m c main_v7)
    (fun k => iblk m c 0 ⟨8 * q + k.val, hk k⟩) (fun k => iblk m c 1 ⟨8 * q + k.val, hk k⟩) y
    ⟨q / 2, by omega⟩ ⟨16 * (q % 2) + (y 1).val, by omega⟩ (fun k j r l => ?_) (fun k j dy dx => ?_)) ?_
  · blk_ext [iblk, index0, finProdFinEquiv_apply_val]
    show (8 * q + k.val) % 8 * 8 + j.val = j.val + 8 * k.val
    omega
  · blk_ext [iblk, index1, finProdFinEquiv_apply_val]
    · show (8 * q + k.val) / 8 % 2 * 16 + (y 1).val = 16 * (q % 2) + (y 1).val
      omega
    · show (8 * q + k.val) % 8 * 8 + j.val = j.val + 8 * k.val
      omega
  · refine congrArg (conv (B := 8) (M := 32) (n := 64) (V m c main_v8) (V m c main_v7)) ?_
    blk_ext [index2]

end Cert.Conv3Ideal.Closed

end
-- ==== Proof.Conv3Claim.lean ====
/- The kernel's third convolution equals the adjoint of the second one.

   The kernel convolves the padded s with the filters W2T[i, o, dy, dx] = W2z[o, i, 4 - dy, 4 - dx]; the reference sums,
   over o, dy and dx, W2z[o, i, dy, dx] times s shifted by (4 - dy, 4 - dx). With dy and dx replaced by 4 - dy and
   4 - dx the two sums are the same. -/
module

public import proofs.«01_k».proof.Defs
public import proofs.«01_k».proof.Proof.Conv3Value
public import proofs.«01_k».proof.Proof.RefConv
public import proofs.«01_k».proof.Proof.Gen.Adjoint2Ideal.Read
public import Idealize.ShloMosaic.Lib.Pointwise.ShapeOpsCore

@[expose] public section

noncomputable section

namespace Cert.Conv3Ideal.Closed

open Cert.Conv3Ideal Cert.Conv3Ideal.Gen Idealize.ShloMosaic Idealize.ShloMosaic.TcCoe Idealize.SL.Sem Idealize.ShloMosaic.StableHlo
open Cert.Conv
open Cert.Adjoint2Ideal.Read

/-- The shapes of the reference's stack fit. -/
theorem stackFacts : StackFacts 8 64 fun d => 4 - d.val :=
  ⟨by decide, by decide, by decide, by decide, by decide, by decide, by decide⟩

/-- The reference's result is the adjoint as RefConv.lean spells it. -/
theorem ref_eq (x : Vec Ideal Cert.Adjoint2Ideal.S8x64x384x384 .f32) (w : Vec Ideal Cert.Adjoint2Ideal.S64x32x5x5 .f32) :
    val_main_v30 (F := Ideal) x w
      = refAdj stackFacts (by decide) (by decide) (val_main_v6 (F := Ideal) x) (val_main_v5 (F := Ideal) w) := rfl

variable (m : (ℓ : Loc nD τ sig) → Buf (Elt Ideal) ℓ) (c : Dev nD)

/-- The kernel's padded input is the reference's. -/
theorem input_eq : V m c main_v8 = val_main_v6 (F := Ideal) (m ((c.tc : Thread nD τ).loc main_arg0)) := by
  show StableHlo.after _ _ _ = _
  simp only [hostOps0, hostOps0_1, List.flatten_cons, List.flatten_nil, List.cons_append, List.nil_append]
  after_results_simp
  rfl

/-- The kernel's filters are the reference's zero-mean filters transposed and turned. -/
theorem filters_eq : V m c main_v7 = Host.reverse [2, 3] (transpose S32x64x5x5 [1, 0, 2, 3]
      (val_main_v5 (F := Ideal) (m ((c.tc : Thread nD τ).loc main_arg1))) (by decide)) := by
  show StableHlo.after _ _ _ = _
  simp only [hostOps0, hostOps0_1, List.flatten_cons, List.flatten_nil, List.cons_append, List.nil_append]
  after_results_simp
  rfl

/-- One filter element. -/
theorem filters_apply (W : (Arr 64 32 5 5).Idx → EReal) (h) (o : Fin 32) (j : Fin 64) (dy dx : Fin 5) :
    Host.reverse [2, 3] (transpose (Arr 32 64 5 5) [1, 0, 2, 3] W h) (ValueIdx.ix4 o j dy dx) = W (ValueIdx.ix4 j o dy.rev dx.rev) := by
  rw [Host.reverse_apply]
  refine transpose_apply [1, 0, 2, 3] W h _ _ (fun b => ?_)
  match b with
  | ⟨0, _⟩ => rfl
  | ⟨1, _⟩ => rfl
  | ⟨2, _⟩ => rfl
  | ⟨3, _⟩ => rfl

/-- The two results are the same array. -/
theorem result_eq : (dats m 0 c).arrAt 2 cfg0.N
    = val_main_v30 (F := Ideal) (m ((c.tc : Thread nD τ).loc main_arg0)) (m ((c.tc : Thread nD τ).loc main_arg1)) := by
  rw [final m c, ref_eq, input_eq m c, filters_eq m c]
  funext y
  exact (refAdj_apply stackFacts _ _ _ _ _ (fun o j dy dx => filters_apply _ _ o j dy dx) y).symm

/-- The value claim. -/
theorem algebraic : Cert.algebraic_Conv3Ideal_Adjoint2Ideal := by
  intro m g m' g' _ hag
  refine ⟨fun c => (dats m 0 c).arrAt 2 cfg0.N, Cert.Conv3Ideal.Value.run_blocks m g, ?_⟩
  refine (θ_run _ _ _).mono (fun r h c => ⟨(h c).1.trans ?_, (h c).2⟩) (Cert.Adjoint2Ideal.Value.run (F := Ideal) m' g')
  rw [val_main_v30_eq, (hag c).1, (hag c).2]
  exact (result_eq m c).symm

end Cert.Conv3Ideal.Closed

end
-- ==== Proof.Conv4Value.lean ====
/- The kernel's fourth convolution, read off its run.

   The call runs over points t = (b, k): image b of 8, channel group k of 4 (8 channels each). Point t reads channels
   8k … 8k+7 of the padded image b and the same channels of the one filter, and at k = 0 stores, later adds, the 5 × 5
   convolution of the two blocks (ConvBlock.lean). The block is written back at k = 3, so the result array holds at
   (b, 0, h, c) the convolution over all 32 channels. -/
module

public import proofs.«01_k».proof.Proof.Gen.Conv4Ideal.Value
public import proofs.«01_k».proof.Proof.ConvBlock
public import Idealize.ShloMosaic.Lib.Pipeline.ValueKit

@[expose] public section

noncomputable section

namespace Cert.Conv4Ideal.Closed

open Cert.Conv4Ideal Cert.Conv4Ideal.Gen Idealize.ShloMosaic Idealize.ShloMosaic.TcCoe Idealize.ShloMosaic.Tactic Idealize.SL.Sem
open Idealize.ShloMosaic.Pipeline (Dat)
open Idealize.ShloMosaic.ValueIdx (ix4)
open Cert.Conv (blockSum conv)

set_option maxRecDepth 100000

theorem sizes : Cert.Conv.Sizes 1 8 := ⟨by decide, by decide, by decide, by decide, by decide, by decide⟩

variable (m : (ℓ : Loc nD τ sig) → Buf (Elt Ideal) ℓ)

section Steps
variable (c : Dev nD) (i : grid0.Coords) (a0 : Memref sig .tc .vmem S1x8x388x388 .f32) (h0 : a0.IsWhole)
  (a1 : Memref sig .tc .vmem S1x8x5x5 .f32) (h1 : a1.IsWhole) (a2 : Memref sig .tc .vmem S1x1x384x384 .f32) (h2 : a2.IsWhole)
  (x : Vec Ideal S1x8x388x388 .f32) (w : Vec Ideal S1x8x5x5 .f32)

/-- At k = 0 the body leaves the convolution of its two blocks. -/
theorem first_eq (hc0 hc1 hc2 hc3 hc4 hc5 hc6 hc7 hc8 hc9 hc10 hc11 hc12 hc13 hc14 hc15) (y : S1x1x384x384.Idx) :
    out0_A_2 c i a0 h0 a1 h1 a2 h2 hc0 hc1 hc2 hc3 hc4 hc5 hc6 hc7 hc8 hc9 hc10 hc11 hc12 hc13 hc14 hc15 x w y
      = blockSum (O := 1) (I := 8) x w y := by
  have e : (kernelRun0_A c i a0 h0 a1 h1 a2 h2 hc0 hc1 hc2 hc3 hc4 hc5 hc6 hc7 hc8 hc9 hc10 hc11 hc12 hc13 hc14 hc15 x w).1
      = Cert.Conv.piecesFirst sizes x w := by
    unfold kernelRun0_A
    dsimp only
    sl_unfold_words
    simp only [View.readAt_eq_ld, h0.read_unread, h1.read_unread]
    rfl
  have cov := cover0_A_2 c i a0 h0 a1 h1 a2 h2 hc0 hc1 hc2 hc3 hc4 hc5 hc6 hc7 hc8 hc9 hc10 hc11 hc12 hc13 hc14 hc15 x w
  unfold out0_A_2
  rw [View.read_writes_eq_canon _ _ _ cov, e]
  rw [e] at cov
  exact Cert.Conv.canon_first sizes x w y (cov y)

/-- At a later k it leaves what the block held plus the convolution of its two blocks. -/
theorem next_eq (hc0 hc1 hc2 hc3 hc4 hc5 hc6 hc7 hc8 hc9 hc10 hc11 hc12 hc13 hc14 hc15) (xo : Vec Ideal S1x1x384x384 .f32)
    (y : S1x1x384x384.Idx) :
    out0_B_2 c i a0 h0 a1 h1 a2 h2 hc0 hc1 hc2 hc3 hc4 hc5 hc6 hc7 hc8 hc9 hc10 hc11 hc12 hc13 hc14 hc15 x w xo y
      = (xo y + blockSum (O := 1) (I := 8) x w y : EReal) := by
  have e : (kernelRun0_B c i a0 h0 a1 h1 a2 h2 hc0 hc1 hc2 hc3 hc4 hc5 hc6 hc7 hc8 hc9 hc10 hc11 hc12 hc13 hc14 hc15 x w xo).1
      = Cert.Conv.piecesNext sizes x w xo := by
    unfold kernelRun0_B
    dsimp only
    sl_unfold_words
    simp only [View.readAt_eq_ld, h0.read_unread, h1.read_unread, h2.read_unread]
    rfl
  have cov := cover0_B_2 c i a0 h0 a1 h1 a2 h2 hc0 hc1 hc2 hc3 hc4 hc5 hc6 hc7 hc8 hc9 hc10 hc11 hc12 hc13 hc14 hc15 x w xo
  unfold out0_B_2
  rw [View.read_writes_eq_canon _ _ _ cov, e]
  rw [e] at cov
  exact Cert.Conv.canon_next sizes x w xo y (cov y)

end Steps

/-- What point n adds to its block. -/
def term (c : Dev nD) (y : S1x1x384x384.Idx) (n : ℕ) (h : n < cfg0.N) : EReal :=
  blockSum (O := 1) (I := 8) (iblk m c 0 ⟨n, h⟩) (iblk m c 1 ⟨n, h⟩) y

/-- After the points 4q, …, 4q + 3 the block holds the sum of what they add. -/
theorem outs_eq (c : Dev nD) (y : S1x1x384x384.Idx) (q : ℕ) (h : 4 * q + 3 < cfg0.N) :
    outsAt0 m c (4 * q + 3) h y = ∑ i : Fin 4, term m c y (4 * q + i.val) (by omega) := by
  refine Cert.Conv.restart_sum (K := 4) (fun n h => outsAt0 m c n h y) (term m c y) (fun n h hm => ?_) (fun n h hm => ?_) q 3 (by decide) h
  · have hn : ¬1 ≤ (⟨n, h⟩ : Fin cfg0.N).val % 4 := by dsimp only; omega
    exact (congrFun (outsAt0_A m c ⟨n, h⟩ hm hn hm hn hm hn hm hn hm hn hm hn hm hn hm hn) y).trans (first_eq ..)
  · have hp : 1 ≤ (⟨n, h⟩ : Fin cfg0.N).val % 4 := by dsimp only; omega
    exact (congrFun (outsAt0_B m c ⟨n, h⟩ hm hp hm hp hm hp hm hp hm hp hm hp hm hp hm hp) y).trans (next_eq ..)

theorem index0 : ∀ t : Fin cfg0.N, win0_0.index t = ![t.val / 4, t.val % 4, 0, 0] := (by decide +kernel : ∀ t : Fin grid0.N, _)
theorem index1 : ∀ t : Fin cfg0.N, win0_1.index t = ![0, t.val % 4, 0, 0] := (by decide +kernel : ∀ t : Fin grid0.N, _)
theorem index2 : ∀ t : Fin cfg0.N, win0_2.index t = ![t.val / 4, 0, 0, 0] := (by decide +kernel : ∀ t : Fin grid0.N, _)

/-- THE RESULT ARRAY is the convolution of the padded images by the filters the call is given. -/
theorem final (c : Dev nD) :
    (dats m 0 c).arrAt 2 cfg0.N = conv (B := 8) (M := 1) (n := 32) (V m c main_v8) (V m c main_v7) := by
  refine (dats m 0 c).arrAt_eq_of_covers 2 _ (by decide +kernel) fun t hf y => ?_
  have hN : cfg0.N = 32 := N_0
  have h3 := (flush0_2 t).mp hf
  obtain ⟨n, hn⟩ := t
  obtain ⟨q, rfl⟩ : ∃ q, n = 4 * q + 3 := ⟨n / 4, by dsimp only at h3; omega⟩
  blk_simp
  rw [after0_2]
  refine (outs_eq m c y q hn).trans ?_
  have hy1 : (y 1).val < 1 := (y 1).isLt
  have hq : 4 * q + 3 < 32 := lt_of_lt_of_eq hn hN
  have hk : ∀ k : Fin 4, 4 * q + k.val < cfg0.N := fun k => by rw [hN]; omega
  refine Eq.trans (Cert.Conv.sum_blocks (K := 4) (I := 8) (O := 1) (B := 8) (M := 1) (V m c main_v8) (V m c main_v7)
    (fun k => iblk m c 0 ⟨4 * q + k.val, hk k⟩) (fun k => iblk m c 1 ⟨4 * q + k.val, hk k⟩) y
    ⟨q, by omega⟩ ⟨0, by omega⟩ (fun k j r l => ?_) (fun k j dy dx => ?_)) ?_
  · blk_ext [iblk, index0, finProdFinEquiv_apply_val]
    show (4 * q + k.val) % 4 * 8 + j.val = j.val + 8 * k.val
    omega
  · blk_ext [iblk, index1, finProdFinEquiv_apply_val]
    · show (4 * q + k.val) % 4 * 8 + j.val = j.val + 8 * k.val
      omega
  · refine congrArg (conv (B := 8) (M := 1) (n := 32) (V m c main_v8) (V m c main_v7)) ?_
    blk_ext [index2]

end Cert.Conv4Ideal.Closed

end
-- ==== Proof.Conv4Claim.lean ====
/- The kernel's fourth convolution equals the adjoint of the first one.

   The kernel convolves the padded v with the filter W1T[0, o, dy, dx] = W1z[o, 0, 4 - dy, 4 - dx]; the reference sums,
   over o, dy and dx, W1z[o, 0, dy, dx] times v shifted by (4 - dy, 4 - dx). With dy and dx replaced by 4 - dy and
   4 - dx the two sums are the same. -/
module

public import proofs.«01_k».proof.Defs
public import proofs.«01_k».proof.Proof.Conv4Value
public import proofs.«01_k».proof.Proof.RefConv
public import proofs.«01_k».proof.Proof.Gen.Adjoint1Ideal.Read
public import Idealize.ShloMosaic.Lib.Pointwise.ShapeOpsCore

@[expose] public section

noncomputable section

namespace Cert.Conv4Ideal.Closed

open Cert.Conv4Ideal Cert.Conv4Ideal.Gen Idealize.ShloMosaic Idealize.ShloMosaic.TcCoe Idealize.SL.Sem Idealize.ShloMosaic.StableHlo
open Cert.Conv
open Cert.Adjoint1Ideal.Read

/-- The shapes of the reference's stack fit. -/
theorem stackFacts : StackFacts 8 32 fun d => 4 - d.val :=
  ⟨by decide, by decide, by decide, by decide, by decide, by decide, by decide⟩

/-- The reference's result is the adjoint as RefConv.lean spells it. -/
theorem ref_eq (x : Vec Ideal Cert.Adjoint1Ideal.S8x32x384x384 .f32) (w : Vec Ideal Cert.Adjoint1Ideal.S32x1x5x5 .f32) :
    val_main_v30 (F := Ideal) x w
      = refAdj stackFacts (by decide) (by decide) (val_main_v6 (F := Ideal) x) (val_main_v5 (F := Ideal) w) := rfl

variable (m : (ℓ : Loc nD τ sig) → Buf (Elt Ideal) ℓ) (c : Dev nD)

/-- The kernel's padded input is the reference's. -/
theorem input_eq : V m c main_v8 = val_main_v6 (F := Ideal) (m ((c.tc : Thread nD τ).loc main_arg0)) := by
  show StableHlo.after _ _ _ = _
  simp only [hostOps0, hostOps0_1, List.flatten_cons, List.flatten_nil, List.cons_append, List.nil_append]
  after_results_simp
  rfl

/-- The kernel's filters are the reference's zero-mean filters transposed and turned. -/
theorem filters_eq : V m c main_v7 = Host.reverse [2, 3] (transpose S1x32x5x5 [1, 0, 2, 3]
      (val_main_v5 (F := Ideal) (m ((c.tc : Thread nD τ).loc main_arg1))) (by decide)) := by
  show StableHlo.after _ _ _ = _
  simp only [hostOps0, hostOps0_1, List.flatten_cons, List.flatten_nil, List.cons_append, List.nil_append]
  after_results_simp
  rfl

/-- One filter element. -/
theorem filters_apply (W : (Arr 32 1 5 5).Idx → EReal) (h) (o : Fin 1) (j : Fin 32) (dy dx : Fin 5) :
    Host.reverse [2, 3] (transpose (Arr 1 32 5 5) [1, 0, 2, 3] W h) (ValueIdx.ix4 o j dy dx) = W (ValueIdx.ix4 j o dy.rev dx.rev) := by
  rw [Host.reverse_apply]
  refine transpose_apply [1, 0, 2, 3] W h _ _ (fun b => ?_)
  match b with
  | ⟨0, _⟩ => rfl
  | ⟨1, _⟩ => rfl
  | ⟨2, _⟩ => rfl
  | ⟨3, _⟩ => rfl

/-- The two results are the same array. -/
theorem result_eq : (dats m 0 c).arrAt 2 cfg0.N
    = val_main_v30 (F := Ideal) (m ((c.tc : Thread nD τ).loc main_arg0)) (m ((c.tc : Thread nD τ).loc main_arg1)) := by
  rw [final m c, ref_eq, input_eq m c, filters_eq m c]
  funext y
  exact (refAdj_apply stackFacts _ _ _ _ _ (fun o j dy dx => filters_apply _ _ o j dy dx) y).symm

/-- The value claim. -/
theorem algebraic : Cert.algebraic_Conv4Ideal_Adjoint1Ideal := by
  intro m g m' g' _ hag
  refine ⟨fun c => (dats m 0 c).arrAt 2 cfg0.N, Cert.Conv4Ideal.Value.run_blocks m g, ?_⟩
  refine (θ_run _ _ _).mono (fun r h c => ⟨(h c).1.trans ?_, (h c).2⟩) (Cert.Adjoint1Ideal.Value.run (F := Ideal) m' g')
  rw [val_main_v30_eq, (hag c).1, (hag c).2]
  exact (result_eq m c).symm

end Cert.Conv4Ideal.Closed

end
-- ==== Proof.lean ====
/- The certificate's claims, assembled: the frames as generated, the value claims from the claim modules. -/
module

public import proofs.«01_k».proof.Defs
public import proofs.«01_k».proof.Proof.Gen.Conv1.Frame
public import proofs.«01_k».proof.Proof.Gen.Conv2.Frame
public import proofs.«01_k».proof.Proof.Gen.Conv3.Frame
public import proofs.«01_k».proof.Proof.Gen.Conv4.Frame
public import proofs.«01_k».proof.Proof.Conv1Claim
public import proofs.«01_k».proof.Proof.Conv2Claim
public import proofs.«01_k».proof.Proof.Conv3Claim
public import proofs.«01_k».proof.Proof.Conv4Claim
public import Idealize.ShloMosaic.Lib.Quiescent

@[expose] public section

noncomputable section

namespace Cert.Proof

open Idealize.ShloMosaic Idealize.SL.Sem

/-- The references' frames: each one's run with the result forgotten, and the counters. -/
theorem frame_forward1 : Cert.quiescent_Forward1Ideal := fun m g _ =>
  (θ_run _ _ _).mono (fun r h => ⟨fun c => (h c).2, sem_eq_zero_of_no_sems (by decide) r.2⟩)
    (Cert.Forward1Ideal.Value.run (F := Ideal) m g)

theorem frame_forward2 : Cert.quiescent_Forward2Ideal := fun m g _ =>
  (θ_run _ _ _).mono (fun r h => ⟨fun c => (h c).2, sem_eq_zero_of_no_sems (by decide) r.2⟩)
    (Cert.Forward2Ideal.Value.run (F := Ideal) m g)

theorem frame_adjoint2 : Cert.quiescent_Adjoint2Ideal := fun m g _ =>
  (θ_run _ _ _).mono (fun r h => ⟨fun c => (h c).2, sem_eq_zero_of_no_sems (by decide) r.2⟩)
    (Cert.Adjoint2Ideal.Value.run (F := Ideal) m g)

theorem frame_adjoint1 : Cert.quiescent_Adjoint1Ideal := fun m g _ =>
  (θ_run _ _ _).mono (fun r h => ⟨fun c => (h c).2, sem_eq_zero_of_no_sems (by decide) r.2⟩)
    (Cert.Adjoint1Ideal.Value.run (F := Ideal) m g)

theorem claim : Cert.Claim :=
  ⟨Cert.Conv1.Gen.facts, Cert.Conv1Ideal.Gen.facts, Cert.Forward1Ideal.Gen.facts,
    Cert.Conv2.Gen.facts, Cert.Conv2Ideal.Gen.facts, Cert.Forward2Ideal.Gen.facts,
    Cert.Conv3.Gen.facts, Cert.Conv3Ideal.Gen.facts, Cert.Adjoint2Ideal.Gen.facts,
    Cert.Conv4.Gen.facts, Cert.Conv4Ideal.Gen.facts, Cert.Adjoint1Ideal.Gen.facts,
    fun m g _ => Cert.Conv1.Gen.frame m g, fun m g _ => Cert.Conv1Ideal.Gen.frame m g, frame_forward1,
    fun m g _ => Cert.Conv2.Gen.frame m g, fun m g _ => Cert.Conv2Ideal.Gen.frame m g, frame_forward2,
    fun m g _ => Cert.Conv3.Gen.frame m g, fun m g _ => Cert.Conv3Ideal.Gen.frame m g, frame_adjoint2,
    fun m g _ => Cert.Conv4.Gen.frame m g, fun m g _ => Cert.Conv4Ideal.Gen.frame m g, frame_adjoint1,
    trivial, Cert.Conv1Ideal.Closed.algebraic, trivial, Cert.Conv2Ideal.Closed.algebraic,
    trivial, Cert.Conv3Ideal.Closed.algebraic, trivial, Cert.Conv4Ideal.Closed.algebraic⟩

end Cert.Proof

end
